-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values_0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x4096 : Shape := ⟨3, ![2, 128, 4096]⟩
abbrev S90112x4096 : Shape := ⟨2, ![90112, 4096]⟩
abbrev S90112 : Shape := ⟨1, ![90112]⟩
abbrev S256x4096 : Shape := ⟨2, ![256, 4096]⟩
abbrev S44x16x128 : Shape := ⟨3, ![44, 16, 128]⟩
abbrev S256x50 : Shape := ⟨2, ![256, 50]⟩
abbrev S2048x4096 : Shape := ⟨2, ![2048, 4096]⟩
abbrev S1x16x128 : Shape := ⟨3, ![1, 16, 128]⟩
abbrev S50x8x256 : Shape := ⟨3, ![50, 8, 256]⟩
abbrev S1024x256 : Shape := ⟨2, ![1024, 256]⟩
abbrev S1024x4096 : Shape := ⟨2, ![1024, 4096]⟩
abbrev S1x1x128 : Shape := ⟨3, ![1, 1, 128]⟩
abbrev S1x128 : Shape := ⟨2, ![1, 128]⟩
abbrev S128x128 : Shape := ⟨2, ![128, 128]⟩
abbrev S8x128 : Shape := ⟨2, ![8, 128]⟩
abbrev S1x8x128 : Shape := ⟨3, ![1, 8, 128]⟩
abbrev S78x128 : Shape := ⟨2, ![78, 128]⟩
abbrev S128x50 : Shape := ⟨2, ![128, 50]⟩

abbrev nBuf : Space → Nat
  | .hbm => 6
  | .vmem => 9
  | .smem => 0
  | _ => 0

abbrev bufTy : (tb : Table) → Fin (tcTables nBuf tb) → BufTy
  | .hbm, ⟨0, _⟩ => ⟨S2x128x4096, .bf16⟩
  | .hbm, ⟨1, _⟩ => ⟨S90112x4096, .i8⟩
  | .hbm, ⟨2, _⟩ => ⟨S90112, .f32⟩
  | .hbm, ⟨3, _⟩ => ⟨S256x4096, .bf16⟩
  | .hbm, ⟨4, _⟩ => ⟨S44x16x128, .f32⟩
  | .hbm, ⟨5, _⟩ => ⟨S256x50, .f32⟩
  | .local _ .vmem, ⟨0, _⟩ => ⟨S256x4096, .bf16⟩
  | .local _ .vmem, ⟨1, _⟩ => ⟨S2048x4096, .i8⟩
  | .local _ .vmem, ⟨2, _⟩ => ⟨S2048x4096, .i8⟩
  | .local _ .vmem, ⟨3, _⟩ => ⟨S1x16x128, .f32⟩
  | .local _ .vmem, ⟨4, _⟩ => ⟨S1x16x128, .f32⟩
  | .local _ .vmem, ⟨5, _⟩ => ⟨S256x50, .f32⟩
  | .local _ .vmem, ⟨6, _⟩ => ⟨S50x8x256, .f32⟩
  | .local _ .vmem, ⟨7, _⟩ => ⟨S1024x256, .f32⟩
  | .local _ .vmem, ⟨8, _⟩ => ⟨S1024x256, .f32⟩
  | _, _ => ⟨S2x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![44], ![false]⟩

def k0_cond2 (i : grid0.Coords) : BitVec 1 :=
  let arg0 : BitVec 32 := BitVec.ofNat 32 (i 0).val
  let c43_i32 : BitVec 32 := 43#32
  let v14093 : BitVec 1 := Scalar.cmpi .eq arg0 c43_i32
  let v14094 : BitVec 32 := Scalar.extui v14093
  let c0_i32_3374 : BitVec 32 := 0#32
  let v14095 : BitVec 1 := Scalar.cmpi .ne v14094 c0_i32_3374
  v14095

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S2x128x4096 : Shape := ⟨3, ![2, 128, 4096]⟩
abbrev S90112x4096 : Shape := ⟨2, ![90112, 4096]⟩
abbrev S90112 : Shape := ⟨1, ![90112]⟩
abbrev S256x4096 : Shape := ⟨2, ![256, 4096]⟩
abbrev S256x90112 : Shape := ⟨2, ![256, 90112]⟩
abbrev S1x90112 : Shape := ⟨2, ![1, 90112]⟩
abbrev S256x704x128 : Shape := ⟨3, ![256, 704, 128]⟩
abbrev S_ : Shape := ⟨0, ![]⟩
abbrev S256x704 : Shape := ⟨2, ![256, 704]⟩
abbrev S256x50 : Shape := ⟨2, ![256, 50]⟩
abbrev S256x50x1 : Shape := ⟨3, ![256, 50, 1]⟩
abbrev S1 : Shape := ⟨1, ![1]⟩
abbrev S1x1x1 : Shape := ⟨3, ![1, 1, 1]⟩
abbrev S256x50x128 : Shape := ⟨3, ![256, 50, 128]⟩
abbrev S256x6400 : Shape := ⟨2, ![256, 6400]⟩

abbrev nBuf : Space → Nat
  | .hbm => 41
  | .vmem => 0
  | .smem => 0
  | _ => 0

abbrev bufTy : (tb : Table) → Fin (tcTables nBuf tb) → BufTy
  | .hbm, ⟨0, _⟩ => ⟨S2x128x4096, .bf16⟩
  | .hbm, ⟨1, _⟩ => ⟨S90112x4096, .i8⟩
  | .hbm, ⟨2, _⟩ => ⟨S90112, .f32⟩
  | .hbm, ⟨3, _⟩ => ⟨S256x4096, .bf16⟩
  | .hbm, ⟨4, _⟩ => ⟨S90112x4096, .i32⟩
  | .hbm, ⟨5, _⟩ => ⟨S90112x4096, .bf16⟩
  | .hbm, ⟨6, _⟩ => ⟨S256x90112, .f32⟩
  | .hbm, ⟨7, _⟩ => ⟨S1x90112, .f32⟩
  | .hbm, ⟨8, _⟩ => ⟨S256x90112, .f32⟩
  | .hbm, ⟨9, _⟩ => ⟨S256x90112, .f32⟩
  | .hbm, ⟨10, _⟩ => ⟨S256x704x128, .f32⟩
  | .hbm, ⟨11, _⟩ => ⟨S_, .f32⟩
  | .hbm, ⟨12, _⟩ => ⟨S256x704, .f32⟩
  | .hbm, ⟨13, _⟩ => ⟨S256x50, .f32⟩
  | .hbm, ⟨14, _⟩ => ⟨S256x50, .i32⟩
  | .hbm, ⟨15, _⟩ => ⟨S256x50x1, .i32⟩
  | .hbm, ⟨16, _⟩ => ⟨S_, .i32⟩
  | .hbm, ⟨17, _⟩ => ⟨S256x50x1, .i32⟩
  | .hbm, ⟨18, _⟩ => ⟨S256x50x1, .i1⟩
  | .hbm, ⟨19, _⟩ => ⟨S_, .i32⟩
  | .hbm, ⟨20, _⟩ => ⟨S256x50x1, .i32⟩
  | .hbm, ⟨21, _⟩ => ⟨S256x50x1, .i32⟩
  | .hbm, ⟨22, _⟩ => ⟨S256x50x1, .i32⟩
  | .hbm, ⟨23, _⟩ => ⟨S1, .i32⟩
  | .hbm, ⟨24, _⟩ => ⟨S_, .i32⟩
  | .hbm, ⟨25, _⟩ => ⟨S256x50x1, .i32⟩
  | .hbm, ⟨26, _⟩ => ⟨S256x50x1, .i1⟩
  | .hbm, ⟨27, _⟩ => ⟨S1x1x1, .i32⟩
  | .hbm, ⟨28, _⟩ => ⟨S256x50x1, .i32⟩
  | .hbm, ⟨29, _⟩ => ⟨S256x50x1, .i1⟩
  | .hbm, ⟨30, _⟩ => ⟨S256x50x1, .i1⟩
  | .hbm, ⟨31, _⟩ => ⟨S_, .i1⟩
  | .hbm, ⟨32, _⟩ => ⟨S256x50, .i1⟩
  | .hbm, ⟨33, _⟩ => ⟨S256x50x128, .f32⟩
  | .hbm, ⟨34, _⟩ => ⟨S256x50x128, .i1⟩
  | .hbm, ⟨35, _⟩ => ⟨S_, .f32⟩
  | .hbm, ⟨36, _⟩ => ⟨S256x50x128, .f32⟩
  | .hbm, ⟨37, _⟩ => ⟨S256x50x128, .f32⟩
  | .hbm, ⟨38, _⟩ => ⟨S256x6400, .f32⟩
  | .hbm, ⟨39, _⟩ => ⟨S256x50, .f32⟩
  | .hbm, ⟨40, _⟩ => ⟨S256x50, .i32⟩
  | _, _ => ⟨S2x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_values : Ref sig .tc := ⟨.hbm, 13, rfl⟩
abbrev main_indices : Ref sig .tc := ⟨.hbm, 14, rfl⟩
abbrev main_v9 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_c_2 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_c_3 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_cst : Ref sig .tc := ⟨.hbm, 35, rfl⟩
abbrev main_call0_v14 : Ref sig .tc := ⟨.hbm, 36, rfl⟩
abbrev main_v10 : Ref sig .tc := ⟨.hbm, 37, rfl⟩
abbrev main_v11 : Ref sig .tc := ⟨.hbm, 38, rfl⟩
abbrev main_values_0 : Ref sig .tc := ⟨.hbm, 39, rfl⟩
abbrev main_indices_1 : Ref sig .tc := ⟨.hbm, 40, rfl⟩

abbrev nD : Nat := 1
abbrev τ : Topo := Topo.v7x

variable {F : FTy → Type} [FloatOps F]
-- ==== Proof.Net.lean ====
/-
  Merge networks on lists, over any carrier with a "greater" and a "lesser" operation: Batcher's odd-even merge and merge
  sort of lists whose length is a power of two, the bitonic merge, and the merge of two descending lists of 50 that keeps
  the 50 greatest of both.
-/
module

public import Mathlib.Data.List.Basic

@[expose] public section

namespace Net

variable {α β : Type}

/-- The elements at even positions. -/
def evens : List α → List α
  | [] => []
  | [a] => [a]
  | a :: _ :: l => a :: evens l

/-- The elements at odd positions. -/
def odds : List α → List α
  | [] => []
  | [_] => []
  | _ :: b :: l => b :: odds l

/-- The last stage of the odd-even merge: the rest of the evens' merge against the odds' merge, one compare-exchange per
    pair, the last of the odds left over. -/
def weave (mx mn : α → α → α) : List α → List α → List α
  | [], _ => []
  | o :: _, [] => [o]
  | o :: os, e :: es => mx o e :: mn o e :: weave mx mn os es

/-- The head of a list put before a tail made of the rest. -/
def headWeave (mx mn : α → α → α) : List α → List α → List α
  | [], _ => []
  | e :: es, os => e :: weave mx mn os es

/-- Batcher's odd-even merge of two lists of length `2 ^ n`. -/
def oddEven (mx mn : α → α → α) : Nat → List α → List α → List α
  | 0, a :: _, b :: _ => [mx a b, mn a b]
  | 0, _, _ => []
  | n + 1, a, b => headWeave mx mn (oddEven mx mn n (evens a) (evens b)) (oddEven mx mn n (odds a) (odds b))

/-- One odd-even merge after another of two neighbouring sorted lists of length `2 ^ n`. -/
def mergePairs (mx mn : α → α → α) (n : Nat) : List (List α) → List (List α)
  | a :: b :: l => oddEven mx mn n a b :: mergePairs mx mn n l
  | l => l

/-- The first list of a list of lists. -/
def first : List (List α) → List α
  | [] => []
  | a :: _ => a

/-- Every element as a list of its own. -/
def singles : List α → List (List α)
  | [] => []
  | a :: l => [a] :: singles l

/-- The odd-even merge sort of 64 elements. -/
def sort64 (mx mn : α → α → α) (l : List α) : List α :=
  first (mergePairs mx mn 5 (mergePairs mx mn 4 (mergePairs mx mn 3 (mergePairs mx mn 2 (mergePairs mx mn 1
    (mergePairs mx mn 0 (singles l)))))))

/-- An operation applied to two lists position by position. -/
def zip2 (f : α → α → α) : List α → List α → List α
  | a :: as, b :: bs => f a b :: zip2 f as bs
  | _, _ => []

/-- The bitonic merge of a list of length `2 ^ n`, the greater to the first half at every stage. -/
def bitonic (mx mn : α → α → α) : Nat → List α → List α
  | 0, l => l
  | n + 1, l => bitonic mx mn n (zip2 mx (l.take (2 ^ n)) (l.drop (2 ^ n)))
      ++ bitonic mx mn n (zip2 mn (l.take (2 ^ n)) (l.drop (2 ^ n)))

/-- What the 50-list merge hands the bitonic merge: the first list against the second reversed, both filled up to 64 with
    nothing. -/
def facing (mx : α → α → α) (a b : List α) : List α :=
  a.take 14 ++ (zip2 mx (a.drop 14) (b.drop 14).reverse ++ (b.take 14).reverse)

/-- The 50 greatest of two descending lists of 50, descending. -/
def topMerge (mx mn : α → α → α) (a b : List α) : List α :=
  (bitonic mx mn 6 (facing mx a b)).take 50

end Net
-- ==== Proof.Hand.lean ====
/-
  The kernel's body written again by structure: its compare-exchange networks as list programs, its loads and stores as
  recursions over row blocks; and the theorem that the printed body is this one.
-/
module

public import proofs.«01_k».proof.KernelIdeal
public import proofs.«01_k».proof.Proof.Net
public import Idealize.ShloMosaic.Lib.Tactic

@[expose] public section

noncomputable section

namespace Cert.KernelIdeal
open Idealize.ShloMosaic Idealize.SL.Sem
variable {F : FTy → Type} [FloatOps F]
variable [Facts]
open Facts₀ Facts

/-- Programs of the kernel core. -/
abbrev Pg (F : FTy → Type) [FloatOps F] (α : Type) := Prog (TpuEff nD τ sig (Elt F) Λ₀ .tc) α

/-- The greater of two registers, element by element. -/
abbrev vmx (a b : FVec F S8x128 .f32) : FVec F S8x128 .f32 := maximumf a b
/-- The lesser of two registers, element by element. -/
abbrev vmn (a b : FVec F S8x128 .f32) : FVec F S8x128 .f32 := minimumf a b

/-- Eight rows and 128 queries lie within a score buffer. -/
theorem inbS (r q : Nat) (hr : r + 8 ≤ 1024) (hq : q + 128 ≤ 256) :
    ∀ a, (![r, q] : Fin 2 → Nat) a + S8x128.size a ≤ S1024x256.size a := by
  intro a; fin_cases a
  · exact hr
  · exact hq

/-- One place of the lists of 128 queries lies within the kept lists. -/
theorem inbT (i q : Nat) (hi : i < 50) (hq : q + 128 ≤ 256) :
    ∀ a, (![i, 0, q] : Fin 3 → Nat) a + S1x8x128.size a ≤ S50x8x256.size a := by
  intro a; fin_cases a
  · exact hi
  · exact Nat.le_refl 8
  · exact hq

/-- Loads `n` registers of 8 rows each from a score buffer, from row `r` on, for the queries from `q` on. -/
def loadS (s : Memref sig .tc .vmem S1024x256 .f32) (q : Nat) (hq : q + 128 ≤ 256) {β : Type} :
    (n : Nat) → (r : Nat) → r + 8 * n ≤ 1024 → (List (FVec F S8x128 .f32) → Pg F β) → Pg F β
  | 0, _, _, k => k []
  | n + 1, r, h, k =>
    .op (.load s (Rect.unit (s := S1024x256) ![r, q] S8x128.size (inbS r q (by omega) hq)).toLoadRect
      (View.loadsAt_vmem h_S8x128)) fun v => loadS s q hq n (r + 8) (by omega) fun l => k (v :: l)

/-- Loads `n` places of the kept lists, from place `i` on, for the queries from `q` on. -/
def loadT (t : Memref sig .tc .vmem S50x8x256 .f32) (q : Nat) (hq : q + 128 ≤ 256) {β : Type} :
    (n : Nat) → (i : Nat) → i + n ≤ 50 → (List (FVec F S8x128 .f32) → Pg F β) → Pg F β
  | 0, _, _, k => k []
  | n + 1, i, h, k =>
    .op (.load t (Rect.unit (s := S50x8x256) ![i, 0, q] S1x8x128.size (inbT i q (by omega) hq)).toLoadRect
      (View.loadsAt_vmem h_S1x8x128)) fun v => loadT t q hq n (i + 1) (by omega) fun l =>
        k (shapeCast S8x128 v shapeCasts_S1x8x128_S8x128 :: l)

/-- Stores a list of registers to the kept lists, from place `i` on. -/
def storeT (t : Memref sig .tc .vmem S50x8x256 .f32) (q : Nat) (hq : q + 128 ≤ 256) :
    List (FVec F S8x128 .f32) → (i : Nat) → Pg F PUnit
  | [], _ => .ret ⟨⟩
  | v :: l, i =>
    if h : i < 50 then
      .op (.load t (Rect.unit (s := S50x8x256) ![i, 0, q] S1x8x128.size (inbT i q h hq)).toLoadRect
        (View.loadsAt_vmem h_S1x8x128)) fun _ =>
      .op (.store t (Rect.unit (s := S50x8x256) ![i, 0, q] S1x8x128.size (inbT i q h hq))
        (shapeCast S1x8x128 v shapeCasts_S8x128_S1x8x128) Finset.univ (View.stores_vmem_bits_univ h_S1x8x128 rfl) (.inl rfl)) fun _ =>
      storeT t q hq l (i + 1)
    else .ret ⟨⟩

/-- Merges the 50 greatest of 512 rows, of each sublane and query, into the kept lists. -/
def handBlock (s : Memref sig .tc .vmem S1024x256 .f32) (t : Memref sig .tc .vmem S50x8x256 .f32)
    (q : Nat) (hq : q + 128 ≤ 256) (r : Nat) (hr : r + 512 ≤ 1024) : Pg F PUnit :=
  loadS s q hq 64 r hr fun b =>
  loadT t q hq 50 0 (by omega) fun c =>
  storeT t q hq (Net.topMerge vmx vmn ((Net.sort64 vmx vmn b).take 50) c) 0

/-- Merges a whole score buffer into the kept lists, two blocks of 512 rows for each half of the queries. -/
def handSelect (s : Memref sig .tc .vmem S1024x256 .f32) (t : Memref sig .tc .vmem S50x8x256 .f32) : Pg F PUnit :=
  (handBlock s t 0 (by omega) 0 (by omega)).bind fun _ =>
  (handBlock s t 0 (by omega) 512 (by omega)).bind fun _ =>
  (handBlock s t 128 (by omega) 0 (by omega)).bind fun _ =>
  handBlock s t 128 (by omega) 512 (by omega)

/-- 1024 rows of codes lie within a block of codes. -/
theorem inbC (r : Nat) (hr : r + 1024 ≤ 2048) :
    ∀ a, (![r, 0] : Fin 2 → Nat) a + S1024x4096.size a ≤ S2048x4096.size a := by
  intro a; fin_cases a
  · exact hr
  · exact Nat.le_refl 4096

/-- A row of 128 scales lies within a block of scales. -/
theorem inbW (t : Nat) (ht : t < 16) :
    ∀ a, (![0, t, 0] : Fin 3 → Nat) a + S1x1x128.size a ≤ S1x16x128.size a := by
  intro a; fin_cases a
  · exact Nat.le_refl 1
  · exact ht
  · exact Nat.le_refl 128

/-- A tile of 128 rows and 128 queries lies within a score buffer. -/
theorem inbP (r q : Nat) (hr : r + 128 ≤ 1024) (hq : q + 128 ≤ 256) :
    ∀ a, (![r, q] : Fin 2 → Nat) a + S128x128.size a ≤ S1024x256.size a := by
  intro a; fin_cases a
  · exact hr
  · exact hq

/-- Such a tile is a slice of the product. -/
theorem slcP (r q : Nat) (hr : r + 128 ≤ 1024) (hq : q + 128 ≤ 256) : S1024x256.Slices ![r, q] S128x128 :=
  ⟨rfl, inbP r q hr hq⟩

/-- Stores one tile of the product times its scales. -/
def handTile (s : Memref sig .tc .vmem S1024x256 .f32) (v7 : FVec F S1024x256 .f32) (col : FVec F S128x128 .f32)
    (r q : Nat) (hr : r + 128 ≤ 1024) (hq : q + 128 ≤ 256) {β : Type} (k : Pg F β) : Pg F β :=
  .op (.load s (Rect.unit (s := S1024x256) ![r, q] S128x128.size (inbP r q hr hq)).toLoadRect
    (View.loadsAt_vmem h_S128x128)) fun _ =>
  .op (.store s (Rect.unit (s := S1024x256) ![r, q] S128x128.size (inbP r q hr hq))
    (shapeCast S128x128 (mulf (extractStridedSlice S128x128 ![r, q] v7 (slcP r q hr hq)) col) shapeCasts_S128x128_S128x128)
    Finset.univ (View.stores_vmem_bits_univ h_S128x128 rfl) (.inl rfl)) fun _ => k

/-- A row of 128 scales made a column and repeated for 128 queries. -/
def handCol (v8 : FVec F S1x1x128 .f32) : FVec F S128x128 .f32 :=
  transpose S128x128 [1, 0] (broadcastTo S128x128 (shapeCast S1x128 (shapeCast S1x128 v8 shapeCasts_S1x1x128_S1x128)
    shapeCasts_S1x128_S1x128) broadcasts_S1x128_S128x128) transposes_S128x128_p1_0_S128x128

/-- Stores `n` rows of tiles, each times its own 128 scales. -/
def handTiles (w : Memref sig .tc .vmem S1x16x128 .f32) (s : Memref sig .tc .vmem S1024x256 .f32)
    (v7 : FVec F S1024x256 .f32) : (n t b : Nat) → b + n ≤ 16 → t * 128 + 128 * n ≤ 1024 → Pg F PUnit
  | 0, _, _, _, _ => .ret ⟨⟩
  | n + 1, t, b, hb, ht =>
    .op (.load w (Rect.unit (s := S1x16x128) ![0, b, 0] S1x1x128.size (inbW b (by omega))).toLoadRect
      (View.loadsAt_vmem h_S1x1x128)) fun (v8 : Vec F S1x1x128 .f32) =>
    handTile s v7 (handCol v8) (t * 128) 0 (by omega) (by omega) <|
    handTile s v7 (handCol v8) (t * 128) 128 (by omega) (by omega) <|
    handTiles w s v7 n (t + 1) (b + 1) (by omega) (by omega)

/-- The product of 1024 rows of codes and the queries. -/
def handDot (c : Vec F S1024x4096 .i8) (x : Vec F S256x4096 .bf16) : FVec F S1024x256 .f32 :=
  matmul dot_S1024x4096_S256x4096_S1024x256_1_1_0_0_n_n none (sitofp .bf16 c : FVec F S1024x4096 .bf16)
    (shapeCast S256x4096 x shapeCasts_S256x4096_S256x4096 : FVec F S256x4096 .bf16) (constant S1024x256 .f32 0x00000000#32)

/-- Scores 1024 rows of a block into a score buffer. -/
def handScore (x : Memref sig .tc .vmem S256x4096 .bf16) (c : Memref sig .tc .vmem S2048x4096 .i8)
    (w : Memref sig .tc .vmem S1x16x128 .f32) (s : Memref sig .tc .vmem S1024x256 .f32)
    (r b : Nat) (hr : r + 1024 ≤ 2048) (hb : b + 8 ≤ 16) : Pg F PUnit :=
  .op (.load c (Rect.unit (s := S2048x4096) ![r, 0] S1024x4096.size (inbC r hr)).toLoadRect
    (View.loadsAt_vmem h_S1024x4096)) fun (v3 : Vec F S1024x4096 .i8) =>
  .op (.load x (Rect.unit (s := S256x4096) ![0, 0] S256x4096.size inb_S256x4096_S256x4096_0_0).toLoadRect
    (View.loadsAt_vmem h_S256x4096)) fun (v5 : Vec F S256x4096 .bf16) =>
  handTiles w s (handDot v3 v5) 8 0 b hb (by omega)

/-- Sets the kept lists and one score buffer to minus infinity. -/
def handInit (t : Memref sig .tc .vmem S50x8x256 .f32) (s : Memref sig .tc .vmem S1024x256 .f32) : Pg F PUnit :=
  .op (.load t (Rect.unit (s := S50x8x256) ![0, 0, 0] S50x8x256.size inb_S50x8x256_S50x8x256_0_0_0).toLoadRect
    (View.loadsAt_vmem h_S50x8x256)) fun _ =>
  .op (.store t (Rect.unit (s := S50x8x256) ![0, 0, 0] S50x8x256.size inb_S50x8x256_S50x8x256_0_0_0)
    (shapeCast S50x8x256 (broadcast S50x8x256 (Scalar.ofBits .f32 0xFF800000#32 : F .f32)) shapeCasts_S50x8x256_S50x8x256)
    Finset.univ (View.stores_vmem_bits_univ h_S50x8x256 rfl) (.inl rfl)) fun _ =>
  .op (.load s (Rect.unit (s := S1024x256) ![0, 0] S1024x256.size inb_S1024x256_S1024x256_0_0).toLoadRect
    (View.loadsAt_vmem h_S1024x256)) fun _ =>
  .op (.store s (Rect.unit (s := S1024x256) ![0, 0] S1024x256.size inb_S1024x256_S1024x256_0_0)
    (shapeCast S1024x256 (broadcast S1024x256 (Scalar.ofBits .f32 0xFF800000#32 : F .f32)) shapeCasts_S1024x256_S1024x256)
    Finset.univ (View.stores_vmem_bits_univ h_S1024x256 rfl) (.inl rfl)) fun _ =>
  .ret ⟨⟩

/-- Fifty rows and 78 more make 128. -/
theorem concatRows (f : Nat → FVec F S1x128 .f32) (z : FVec F S78x128 .f32) :
    Shape.Concatenates ((((List.range 50).map fun k => (⟨S1x128, f k⟩ : (s : Shape) × (s.Idx → F .f32))) ++
      [(⟨S78x128, z⟩ : (s : Shape) × (s.Idx → F .f32))]).map (fun p => p.1)) S128x128 0 := by
  show Shape.Concatenates ((List.range 50).map (fun _ => S1x128) ++ [S78x128]) S128x128 0
  decide

/-- The first sublane of a register. -/
def topRow (v : FVec F S8x128 .f32) : FVec F S1x128 .f32 :=
  extractStridedSlice S1x128 ![0, 0] v slices_S8x128_o0_0_S1x128

/-- The rows of a list of 50 put under each other, filled up with zeros, transposed and cut to 50 columns. -/
def handRows (l : List (FVec F S8x128 .f32)) : FVec F S128x50 .f32 :=
  extractStridedSlice S128x50 ![0, 0] (transpose S128x128 [1, 0] (concatenate S128x128 0
    (((List.range 50).map fun k => ⟨S1x128, topRow (l.getD k (fun _ => Scalar.ofBits .f32 0#32))⟩) ++
      [⟨S78x128, broadcast S78x128 (Scalar.ofBits .f32 0x00000000#32)⟩])
    (concatRows (fun k => topRow (l.getD k (fun _ => Scalar.ofBits .f32 0#32))) _)) transposes_S128x128_p1_0_S128x128) slices_S128x128_o0_0_S128x50

/-- A register rotated along its sublanes. -/
def rot (n : BitVec 32) (v : FVec F S8x128 .f32) : FVec F S8x128 .f32 := dynamicRotate 0 n none v rotates_S8x128_d0

/-- A list merged with its own rotation along the sublanes. -/
def foldRot (n : BitVec 32) (l : List (FVec F S8x128 .f32)) : List (FVec F S8x128 .f32) :=
  Net.topMerge vmx vmn l (l.map (rot n))

/-- 128 queries lie within the result. -/
theorem inbO (q : Nat) (hq : q + 128 ≤ 256) :
    ∀ a, (![q, 0] : Fin 2 → Nat) a + S128x50.size a ≤ S256x50.size a := by
  intro a; fin_cases a
  · exact hq
  · exact Nat.le_refl 50

/-- Folds the eight sublanes of the kept lists of 128 queries into one, and writes them to the result. -/
def handFinish (t : Memref sig .tc .vmem S50x8x256 .f32) (o : Memref sig .tc .vmem S256x50 .f32)
    (q : Nat) (hq : q + 128 ≤ 256) : Pg F PUnit :=
  loadT t q hq 50 0 (by omega) fun c =>
  .op (.load o (Rect.unit (s := S256x50) ![q, 0] S128x50.size (inbO q hq)).toLoadRect (View.loadsAt_vmem h_S128x50)) fun _ =>
  .op (.store o (Rect.unit (s := S256x50) ![q, 0] S128x50.size (inbO q hq))
    (handRows (foldRot 1#32 (foldRot 2#32 (foldRot 4#32 c)))) Finset.univ
    (View.stores_vmem_bits_univ h_S128x50 rfl) (.inl rfl)) fun _ => .ret ⟨⟩

variable (i : grid0.Coords) (arg1 : Memref sig .tc .vmem S256x4096 .bf16) (harg1 : arg1.IsWhole) (arg2 : Memref sig .tc .vmem S2048x4096 .i8) (harg2 : arg2.IsWhole) (arg3 : Memref sig .tc .vmem S1x16x128 .f32) (harg3 : arg3.IsWhole) (arg4 : Memref sig .tc .vmem S256x50 .f32) (harg4 : arg4.IsWhole) (arg5 : Memref sig .tc .vmem S50x8x256 .f32) (harg5 : arg5.IsWhole) (arg6 : Memref sig .tc .vmem S1024x256 .f32) (harg6 : arg6.IsWhole) (arg7 : Memref sig .tc .vmem S1024x256 .f32) (harg7 : arg7.IsWhole)

/-- The test for the first grid point. -/
abbrev isFirst (i : grid0.Coords) : Prop :=
  Scalar.cmpi .ne (Scalar.extui (Scalar.cmpi .eq (BitVec.ofNat 32 (i 0).val) 0#32) : BitVec 32) 0#32 = 1#1

/-- The first part of the body where the first grid point's branch is not taken. -/
def part209Neg : { p // ¬ isFirst i → k0_part209 (F := F) i arg1 harg1 arg2 harg2 arg3 harg3 arg4 harg4 arg5 harg5 arg6 harg6 arg7 harg7 = p } := by
  refine ⟨?p, fun h => ?_⟩
  rotate_left
  unfold k0_part209
  extract_lets
  rw [dif_neg h]

/-- The body where the first grid point's branch is not taken. -/
def bodyNeg : { p // ¬ isFirst i → cc0_mips_topk (F := F) i arg1 harg1 arg2 harg2 arg3 harg3 arg4 harg4 arg5 harg5 arg6 harg6 arg7 harg7 = p } := by
  refine ⟨?p, fun h => ?_⟩
  rotate_left
  unfold cc0_mips_topk k0_part510
  rw [(part209Neg i arg1 harg1 arg2 harg2 arg3 harg3 arg4 harg4 arg5 harg5 arg6 harg6 arg7 harg7).2 h]

/-- The first part of the body where the first grid point's branch is taken. -/
def part209Pos : { p // isFirst i → k0_part209 (F := F) i arg1 harg1 arg2 harg2 arg3 harg3 arg4 harg4 arg5 harg5 arg6 harg6 arg7 harg7 = p } := by
  refine ⟨?p, fun h => ?_⟩
  rotate_left
  unfold k0_part209
  extract_lets
  rw [dif_pos h]

/-- The body where the first grid point's branch is taken. -/
def bodyPos : { p // isFirst i → cc0_mips_topk (F := F) i arg1 harg1 arg2 harg2 arg3 harg3 arg4 harg4 arg5 harg5 arg6 harg6 arg7 harg7 = p } := by
  refine ⟨?p, fun h => ?_⟩
  rotate_left
  unfold cc0_mips_topk k0_part510
  rw [(part209Pos i arg1 harg1 arg2 harg2 arg3 harg3 arg4 harg4 arg5 harg5 arg6 harg6 arg7 harg7).2 h]

/-- The body after the first grid point's branch. -/
def handBody : Pg F PUnit :=
  (handScore arg1 arg2 arg3 arg6 0 0 (by omega) (by omega)).bind fun _ =>
  (handSelect arg7 arg5).bind fun _ =>
  (handScore arg1 arg2 arg3 arg7 1024 8 (by omega) (by omega)).bind fun _ =>
  (handSelect arg6 arg5).bind fun _ =>
  if _h : k0_cond2 i = 1#1 then
    (handSelect arg7 arg5).bind fun _ =>
    (handFinish arg5 arg4 0 (by omega)).bind fun _ =>
    handFinish arg5 arg4 128 (by omega)
  else .ret ⟨⟩

/-- Where the first branch is not taken, the printed body is the hand-written one. -/
theorem bodyNeg_eq : (bodyNeg (F := F) i arg1 harg1 arg2 harg2 arg3 harg3 arg4 harg4 arg5 harg5 arg6 harg6 arg7 harg7).1 =
    handBody i arg1 arg2 arg3 arg4 arg5 arg6 arg7 := by
  sl_kernel_rfl

/-- Where the first branch is taken, the printed body sets the buffers and goes on as where it is not. -/
theorem bodyPos_eq : (bodyPos (F := F) i arg1 harg1 arg2 harg2 arg3 harg3 arg4 harg4 arg5 harg5 arg6 harg6 arg7 harg7).1 =
    (handInit arg5 arg7).bind fun _ =>
      (bodyNeg (F := F) i arg1 harg1 arg2 harg2 arg3 harg3 arg4 harg4 arg5 harg5 arg6 harg6 arg7 harg7).1 := by
  sl_kernel_rfl

/-- The kernel's body is the hand-written one. -/
theorem body_eq : cc0_mips_topk (F := F) i arg1 harg1 arg2 harg2 arg3 harg3 arg4 harg4 arg5 harg5 arg6 harg6 arg7 harg7 =
    if isFirst i then (handInit arg5 arg7).bind fun _ => handBody i arg1 arg2 arg3 arg4 arg5 arg6 arg7
    else handBody i arg1 arg2 arg3 arg4 arg5 arg6 arg7 := by
  by_cases h : isFirst i
  · rw [if_pos h, (bodyPos i arg1 harg1 arg2 harg2 arg3 harg3 arg4 harg4 arg5 harg5 arg6 harg6 arg7 harg7).2 h, bodyPos_eq, bodyNeg_eq]
  · rw [if_neg h, (bodyNeg i arg1 harg1 arg2 harg2 arg3 harg3 arg4 harg4 arg5 harg5 arg6 harg6 arg7 harg7).2 h, bodyNeg_eq]

end Cert.KernelIdeal
-- ==== Proof.Wp.lean ====
/-
  What each piece of the hand-written body does to the buffers it touches: one rule per piece, stated with the contents
  before and after as plain functions of the contents.
-/
module

public import proofs.«01_k».proof.Proof.Hand
public import proofs.«01_k».proof.Proof.Gen.KernelIdeal.Frame
public import Idealize.ShloMosaic.Lib.VecWindow

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)
open Facts₀ Facts

variable {F : FTy → Type} [FloatOps F]

local notation "𝕄" => MT nD τ sig Unit (Elt F) ℕ (UR sig nD τ) ℕ

/-! ## The contents as functions -/

/-- The 8×128 blocks read from a score buffer at the columns from `q`, one block per 8 rows from row `r`. -/
def winS (x : Vec F S1024x256 .f32) (q : Nat) (hq : q + 128 ≤ 256) : (n r : Nat) → r + 8 * n ≤ 1024 → List (FVec F S8x128 .f32)
  | 0, _, _ => []
  | n + 1, r, h => window x ![r, q] S8x128.size (inbS r q (by omega) hq) :: winS x q hq n (r + 8) (by omega)

/-- The list kept for the columns from `q`, from its `i`-th place on. -/
def winT (x : Vec F S50x8x256 .f32) (q : Nat) (hq : q + 128 ≤ 256) : (n i : Nat) → i + n ≤ 50 → List (FVec F S8x128 .f32)
  | 0, _, _ => []
  | n + 1, i, h => shapeCast S8x128 (window x ![i, 0, q] S1x8x128.size (inbT i q (by omega) hq) : Vec F S1x8x128 .f32) shapeCasts_S1x8x128_S8x128
      :: winT x q hq n (i + 1) (by omega)

/-- The kept lists with those of the columns from `q` overwritten. -/
def putT (q : Nat) : List (FVec F S8x128 .f32) → (i : Nat) → Vec F S50x8x256 .f32 → Vec F S50x8x256 .f32
  | [], _, x => x
  | v :: l, i, x => if i < 50 then putT q l (i + 1) (put x ![i, 0, q] S1x8x128.size (shapeCast S1x8x128 v shapeCasts_S8x128_S1x8x128)) else x

/-- The kept lists after one block of 512 rows has been merged into those of the columns from `q`. -/
def blockV (x : Vec F S1024x256 .f32) (q : Nat) (hq : q + 128 ≤ 256) (r : Nat) (hr : r + 512 ≤ 1024) (t : Vec F S50x8x256 .f32) : Vec F S50x8x256 .f32 :=
  putT q (Net.topMerge vmx vmn ((Net.sort64 vmx vmn (winS x q hq 64 r hr)).take 50) (winT t q hq 50 0 (by omega))) 0 t

/-- The kept lists after a whole score buffer of 1024 rows has been merged in. -/
def selectV (x : Vec F S1024x256 .f32) (t : Vec F S50x8x256 .f32) : Vec F S50x8x256 .f32 :=
  blockV x 128 (by omega) 512 (by omega) (blockV x 128 (by omega) 0 (by omega)
    (blockV x 0 (by omega) 512 (by omega) (blockV x 0 (by omega) 0 (by omega) t)))

/-- One scaled 128×128 tile of the product put into a score buffer. -/
def tileV (v7 : FVec F S1024x256 .f32) (col : FVec F S128x128 .f32) (r q : Nat) (hr : r + 128 ≤ 1024) (hq : q + 128 ≤ 256)
    (x : Vec F S1024x256 .f32) : Vec F S1024x256 .f32 :=
  put x ![r, q] S128x128.size
    (shapeCast S128x128 (mulf (extractStridedSlice S128x128 ![r, q] v7 (slcP r q hr hq)) col) shapeCasts_S128x128_S128x128)

/-- The score buffer after `n` rows of tiles from tile row `t`, the scales taken from row `b` of the scale block on. -/
def tilesV (w : Vec F S1x16x128 .f32) (v7 : FVec F S1024x256 .f32) : (n t b : Nat) → b + n ≤ 16 → t * 128 + 128 * n ≤ 1024 →
    Vec F S1024x256 .f32 → Vec F S1024x256 .f32
  | 0, _, _, _, _, x => x
  | n + 1, t, b, hb, ht, x =>
    tilesV w v7 n (t + 1) (b + 1) (by omega) (by omega)
      (tileV v7 (handCol (window w ![0, b, 0] S1x1x128.size (inbW b (by omega)))) (t * 128) 128 (by omega) (by omega)
        (tileV v7 (handCol (window w ![0, b, 0] S1x1x128.size (inbW b (by omega)))) (t * 128) 0 (by omega) (by omega) x))

/-- The scores of 1024 of a block's 2048 rows, over what the buffer held. -/
def scoreV (x : Vec F S256x4096 .bf16) (c : Vec F S2048x4096 .i8) (w : Vec F S1x16x128 .f32) (r b : Nat) (hr : r + 1024 ≤ 2048)
    (hb : b + 8 ≤ 16) (s : Vec F S1024x256 .f32) : Vec F S1024x256 .f32 :=
  tilesV w (handDot (window c ![r, 0] S1024x4096.size (inbC r hr)) (window x ![0, 0] S256x4096.size inb_S256x4096_S256x4096_0_0)) 8 0 b hb
    (by omega) s

/-- The kept lists at the start: minus infinity everywhere. -/
def initT : Vec F S50x8x256 .f32 :=
  shapeCast S50x8x256 (broadcast S50x8x256 (Scalar.ofBits .f32 0xFF800000#32 : F .f32)) shapeCasts_S50x8x256_S50x8x256

/-- The score buffer selected from first, at the start: minus infinity everywhere. -/
def initS : Vec F S1024x256 .f32 :=
  shapeCast S1024x256 (broadcast S1024x256 (Scalar.ofBits .f32 0xFF800000#32 : F .f32)) shapeCasts_S1024x256_S1024x256

/-- The rows of the result for the columns from `q`, over what the buffer held. -/
def finishV (t : Vec F S50x8x256 .f32) (q : Nat) (hq : q + 128 ≤ 256) (o : Vec F S256x50 .f32) : Vec F S256x50 .f32 :=
  put o ![q, 0] S128x50.size (handRows (foldRot 1#32 (foldRot 2#32 (foldRot 4#32 (winT t q hq 50 0 (by omega))))))

/-! ## The rules -/

/-- The weakest precondition of a piece of the body, run by core `c`. -/
abbrev W (c : Dev nD) {α : Type} (p : Pg F α) (Q : α → sProp 𝕄) : sProp 𝕄 :=
  wp frame (wpE (defs₀ (F := F)) Variants.none (c : Thread nD τ) none) Set.univ p Q

/-- A buffer of core `c` held whole at the contents `x`. -/
abbrev own (c : Dev nD) {s : Shape} {e : EltTy} (m : Memref sig .tc .vmem s e) (x : Vec F s e) : sProp 𝕄 :=
  owns (c : Thread nD τ) m fullShare x

variable (c : Dev nD)

/-- One program after another. -/
theorem wp_seq {α β : Type} (p : Pg F α) (k : α → Pg F β) (Q : β → sProp 𝕄) : W c p (fun a => W c (k a) Q) ⊢ W c (p.bind k) Q := by
  show _ ⊢ W c (p >>= k) Q
  unfold W
  rw [wp_bind]

/-- A load gives the window's contents. -/
theorem wp_ld {s : Shape} {e : EltTy} {β : Type} (m : Memref sig .tc .vmem s e) {off size : Fin s.rank → Nat} (inb : ∀ a, off a + size a ≤ s.size a)
    (hl : m.view.LoadsAt (Rect.unit off size inb).toLoadRect) (x : Vec F s e) (k : ((Rect.unit off size inb).shape.Idx → Elt F e) → Pg F β) (Q : β → sProp 𝕄) :
    own c m x ⊢ iprop((own c m x -∗ W c (k (window x off size inb)) Q) -∗ W c (.op (.load m (Rect.unit off size inb).toLoadRect hl) k) Q) := by
  iintro H K
  unfold own owns
  icases H with ⟨%f, %hf, H⟩
  iapply (wp_load Variants.none (c : Thread nD τ) none Set.univ (m := m) (r := (Rect.unit off size inb).toLoadRect) (View.setOn_subset_set _ _)) $$ H
  iintro H
  rw [View.readAt_unit m.view f inb rfl inb, hf]
  iapply K
  iexists f
  isplitr
  · ipureintro; exact hf
  · iexact H

/-- A store puts its value in the window. -/
theorem wp_st {s : Shape} {e : EltTy} {β : Type} (m : Memref sig .tc .vmem s e) {off size : Fin s.rank → Nat} (inb : ∀ a, off a + size a ≤ s.size a)
    (w : (Rect.unit off size inb).shape.Idx → Elt F e)
    (hx : (m.access (Rect.unit off size inb)).Stores Finset.univ) (hm : Finset.univ = Finset.univ ∨ ∀ a, (Rect.unit off size inb).stride a = 1)
    (x : Vec F s e) (k : PUnit → Pg F β) (Q : β → sProp 𝕄) :
    own c m x ⊢ iprop((own c m (put x off size w) -∗ W c (k ⟨⟩) Q) -∗ W c (.op (.store m (Rect.unit off size inb) w Finset.univ hx hm) k) Q) := by
  iintro H K
  unfold own owns
  icases H with ⟨%f, %hf, H⟩
  iapply (wp_store_writes₀ Variants.none (c : Thread nD τ) none Set.univ (m := m) (r := Rect.unit off size inb) (View.set_slice_subset _ _)) $$ H
  iintro H
  iapply K
  iexists _
  isplitr
  swap
  · iexact H
  · ipureintro
    rw [View.read_writes_cons_put m.view f inb w [] rfl, View.writes_nil, hf]

/-- Loading registers of scores. -/
theorem wp_loadS {β : Type} (s : Memref sig .tc .vmem S1024x256 .f32) (x : Vec F S1024x256 .f32) (q : Nat) (hq : q + 128 ≤ 256) (Q : β → sProp 𝕄) :
    ∀ (n r : Nat) (h : r + 8 * n ≤ 1024) (k : List (FVec F S8x128 .f32) → Pg F β),
    own c s x ⊢ iprop((own c s x -∗ W c (k (winS x q hq n r h)) Q) -∗ W c (loadS s q hq n r h k) Q)
  | 0, r, h, k => by
    iintro H K; unfold loadS winS; iapply K; iexact H
  | n + 1, r, h, k => by
    iintro H K
    unfold loadS winS
    iapply (wp_ld c s (inbS r q (by omega) hq) _ x _ Q) $$ H
    iintro H
    iapply (wp_loadS s x q hq Q n (r + 8) _ _) $$ H
    iexact K

/-- Loading places of the kept lists. -/
theorem wp_loadT {β : Type} (t : Memref sig .tc .vmem S50x8x256 .f32) (x : Vec F S50x8x256 .f32) (q : Nat) (hq : q + 128 ≤ 256) (Q : β → sProp 𝕄) :
    ∀ (n i : Nat) (h : i + n ≤ 50) (k : List (FVec F S8x128 .f32) → Pg F β),
    own c t x ⊢ iprop((own c t x -∗ W c (k (winT x q hq n i h)) Q) -∗ W c (loadT t q hq n i h k) Q)
  | 0, i, h, k => by
    iintro H K; unfold loadT winT; iapply K; iexact H
  | n + 1, i, h, k => by
    iintro H K
    unfold loadT winT
    iapply (wp_ld c t (inbT i q (by omega) hq) _ x _ Q) $$ H
    iintro H
    iapply (wp_loadT t x q hq Q n (i + 1) _ _) $$ H
    iexact K

/-- Storing places of the kept lists. -/
theorem wp_storeT (t : Memref sig .tc .vmem S50x8x256 .f32) (q : Nat) (hq : q + 128 ≤ 256) (Q : PUnit → sProp 𝕄) :
    ∀ (l : List (FVec F S8x128 .f32)) (i : Nat) (x : Vec F S50x8x256 .f32),
    own c t x ⊢ iprop((own c t (putT q l i x) -∗ Q ⟨⟩) -∗ W c (storeT t q hq l i) Q)
  | [], i, x => by
    iintro H K; unfold storeT putT W; rw [wp_ret]; imodintro; iapply K; iexact H
  | v :: l, i, x => by
    iintro H K
    unfold storeT putT
    by_cases h : i < 50
    · rw [dif_pos h, if_pos h]
      iapply (wp_ld c t (inbT i q h hq) _ x _ Q) $$ H
      iintro H
      iapply (wp_st c t (inbT i q h hq) _ _ _ x _ Q) $$ H
      iintro H
      iapply (wp_storeT t q hq Q l (i + 1) _) $$ H
      iexact K
    · rw [dif_neg h, if_neg h]
      unfold W; rw [wp_ret]; imodintro; iapply K; iexact H

/-- One block of 512 rows merged into the kept lists. -/
theorem wp_block (s : Memref sig .tc .vmem S1024x256 .f32) (t : Memref sig .tc .vmem S50x8x256 .f32) (x : Vec F S1024x256 .f32) (y : Vec F S50x8x256 .f32)
    (q : Nat) (hq : q + 128 ≤ 256) (r : Nat) (hr : r + 512 ≤ 1024) (Q : PUnit → sProp 𝕄) :
    iprop(own c s x ∗ own c t y) ⊢ iprop((own c s x ∗ own c t (blockV x q hq r hr y) -∗ Q ⟨⟩) -∗ W c (handBlock s t q hq r hr) Q) := by
  iintro ⟨HS, HT⟩ K
  unfold handBlock blockV
  iapply (wp_loadS c s x q hq Q 64 r hr _) $$ HS
  iintro HS
  iapply (wp_loadT c t y q hq Q 50 0 _ _) $$ HT
  iintro HT
  iapply (wp_storeT c t q hq Q _ 0 y) $$ HT
  iintro HT
  iapply K
  isplitl [HS]
  · iexact HS
  · iexact HT

/-- A whole score buffer merged into the kept lists. -/
theorem wp_select (s : Memref sig .tc .vmem S1024x256 .f32) (t : Memref sig .tc .vmem S50x8x256 .f32) (x : Vec F S1024x256 .f32) (y : Vec F S50x8x256 .f32)
    (Q : PUnit → sProp 𝕄) :
    iprop(own c s x ∗ own c t y) ⊢ iprop((own c s x ∗ own c t (selectV x y) -∗ Q ⟨⟩) -∗ W c (handSelect s t) Q) := by
  iintro H K
  unfold handSelect selectV
  iapply (wp_seq c _ _ Q)
  iapply (wp_block c s t x y 0 _ 0 _ _) $$ H
  iintro H
  iapply (wp_seq c _ _ Q)
  iapply (wp_block c s t x _ 0 _ 512 _ _) $$ H
  iintro H
  iapply (wp_seq c _ _ Q)
  iapply (wp_block c s t x _ 128 _ 0 _ _) $$ H
  iintro H
  iapply (wp_block c s t x _ 128 _ 512 _ _) $$ H
  iexact K

/-- One tile stored. -/
theorem wp_tile {β : Type} (s : Memref sig .tc .vmem S1024x256 .f32) (v7 : FVec F S1024x256 .f32) (col : FVec F S128x128 .f32) (r q : Nat)
    (hr : r + 128 ≤ 1024) (hq : q + 128 ≤ 256) (x : Vec F S1024x256 .f32) (k : Pg F β) (Q : β → sProp 𝕄) :
    own c s x ⊢ iprop((own c s (tileV v7 col r q hr hq x) -∗ W c k Q) -∗ W c (handTile s v7 col r q hr hq k) Q) := by
  iintro H K
  unfold handTile tileV
  iapply (wp_ld c s (inbP r q hr hq) _ x _ Q) $$ H
  iintro H
  iapply (wp_st c s (inbP r q hr hq) _ _ _ x _ Q) $$ H
  iexact K

/-- All tiles stored. -/
theorem wp_tiles (w : Memref sig .tc .vmem S1x16x128 .f32) (s : Memref sig .tc .vmem S1024x256 .f32) (v7 : FVec F S1024x256 .f32)
    (y : Vec F S1x16x128 .f32) (Q : PUnit → sProp 𝕄) :
    ∀ (n t b : Nat) (hb : b + n ≤ 16) (ht : t * 128 + 128 * n ≤ 1024) (x : Vec F S1024x256 .f32),
    iprop(own c w y ∗ own c s x) ⊢ iprop((own c w y ∗ own c s (tilesV y v7 n t b hb ht x) -∗ Q ⟨⟩) -∗ W c (handTiles w s v7 n t b hb ht) Q)
  | 0, t, b, hb, ht, x => by
    iintro H K; unfold handTiles tilesV W; rw [wp_ret]; imodintro; iapply K; iexact H
  | n + 1, t, b, hb, ht, x => by
    iintro ⟨HW, HS⟩ K
    unfold handTiles tilesV
    iapply (wp_ld c w (inbW b (by omega)) _ y _ Q) $$ HW
    iintro HW
    iapply (wp_tile c s v7 _ (t * 128) 0 _ _ x _ Q) $$ HS
    iintro HS
    iapply (wp_tile c s v7 _ (t * 128) 128 _ _ _ _ Q) $$ HS
    iintro HS
    iapply (wp_tiles w s v7 y Q n (t + 1) (b + 1) _ _ _) $$ [HW HS]
    · isplitl [HW]
      · iexact HW
      · iexact HS
    iexact K

/-- 1024 rows scored. -/
theorem wp_score (x : Memref sig .tc .vmem S256x4096 .bf16) (d : Memref sig .tc .vmem S2048x4096 .i8)
    (w : Memref sig .tc .vmem S1x16x128 .f32) (s : Memref sig .tc .vmem S1024x256 .f32) (r b : Nat) (hr : r + 1024 ≤ 2048) (hb : b + 8 ≤ 16)
    (X : Vec F S256x4096 .bf16) (D : Vec F S2048x4096 .i8) (Y : Vec F S1x16x128 .f32) (S : Vec F S1024x256 .f32) (Q : PUnit → sProp 𝕄) :
    iprop(own c x X ∗ own c d D ∗ own c w Y ∗ own c s S) ⊢
      iprop((own c x X ∗ own c d D ∗ own c w Y ∗ own c s (scoreV X D Y r b hr hb S) -∗ Q ⟨⟩) -∗ W c (handScore x d w s r b hr hb) Q) := by
  iintro ⟨HX, HD, HW, HS⟩ K
  unfold handScore scoreV
  iapply (wp_ld c d (inbC r hr) _ D _ Q) $$ HD
  iintro HD
  iapply (wp_ld c x inb_S256x4096_S256x4096_0_0 _ X _ Q) $$ HX
  iintro HX
  iapply (wp_tiles c w s _ Y Q 8 0 b hb _ S) $$ [HW HS]
  · isplitl [HW]
    · iexact HW
    · iexact HS
  iintro ⟨HW, HS⟩
  iapply K
  isplitl [HX]
  · iexact HX
  isplitl [HD]
  · iexact HD
  isplitl [HW]
  · iexact HW
  · iexact HS

/-- A write over the whole of a buffer leaves what was written. -/
theorem put_whole {α : Type} {s : Shape} (x : s.Idx → α) (off : Fin s.rank → Nat) (h0 : ∀ a, off a = 0) (w : ((a : Fin s.rank) → Fin (s.size a)) → α) :
    put x off s.size w = w := by
  funext y
  have h : ∀ a, off a ≤ (y a).val ∧ (y a).val < off a + s.size a := fun a => by
    have := (y a).isLt; have := h0 a; omega
  unfold VecWindow.put
  rw [dif_pos h]
  refine congrArg w (funext fun a => Fin.ext ?_)
  show (y a).val - off a = (y a).val
  rw [h0 a]; rfl

/-- The buffers set to minus infinity. -/
theorem wp_init (t : Memref sig .tc .vmem S50x8x256 .f32) (s : Memref sig .tc .vmem S1024x256 .f32) (x : Vec F S50x8x256 .f32) (y : Vec F S1024x256 .f32)
    (Q : PUnit → sProp 𝕄) :
    iprop(own c t x ∗ own c s y) ⊢ iprop((own c t initT ∗ own c s initS -∗ Q ⟨⟩) -∗ W c (handInit t s) Q) := by
  iintro ⟨HT, HS⟩ K
  unfold handInit initT initS
  iapply (wp_ld c t inb_S50x8x256_S50x8x256_0_0_0 _ x _ Q) $$ HT
  iintro HT
  iapply (wp_st c t inb_S50x8x256_S50x8x256_0_0_0 _ _ _ x _ Q) $$ HT
  iintro HT
  iapply (wp_ld c s inb_S1024x256_S1024x256_0_0 _ y _ Q) $$ HS
  iintro HS
  iapply (wp_st c s inb_S1024x256_S1024x256_0_0 _ _ _ y _ Q) $$ HS
  iintro HS
  rw [put_whole x ![0, 0, 0] (by decide), put_whole y ![0, 0] (by decide)]
  unfold W; rw [wp_ret]; imodintro
  iapply K
  isplitl [HT]
  · iexact HT
  · iexact HS

/-- Half of the result written. -/
theorem wp_finish (t : Memref sig .tc .vmem S50x8x256 .f32) (o : Memref sig .tc .vmem S256x50 .f32) (x : Vec F S50x8x256 .f32) (y : Vec F S256x50 .f32)
    (q : Nat) (hq : q + 128 ≤ 256) (Q : PUnit → sProp 𝕄) :
    iprop(own c t x ∗ own c o y) ⊢ iprop((own c t x ∗ own c o (finishV x q hq y) -∗ Q ⟨⟩) -∗ W c (handFinish t o q hq) Q) := by
  iintro ⟨HT, HO⟩ K
  unfold handFinish finishV
  iapply (wp_loadT c t x q hq Q 50 0 _ _) $$ HT
  iintro HT
  iapply (wp_ld c o (inbO q hq) _ y _ Q) $$ HO
  iintro HO
  iapply (wp_st c o (inbO q hq) _ _ _ y _ Q) $$ HO
  iintro HO
  unfold W; rw [wp_ret]; imodintro
  iapply K
  isplitl [HT]
  · iexact HT
  · iexact HO

end Cert.KernelIdeal
end
-- ==== Proof.Vals.lean ====
/-
  The contents functions read at an index: a score buffer after its tiles have been put, a result buffer after its two
  halves have been put.
-/
module

public import proofs.«01_k».proof.Proof.Wp
public import Idealize.ShloMosaic.Lib.Pointwise

@[expose] public section

set_option maxRecDepth 16384

noncomputable section

namespace Cert.KernelIdeal

open Idealize.ShloMosaic Idealize.ShloMosaic.TcCoe Idealize.SL.Sem
open VecWindow (window put)
open Facts₀ Facts

variable {F : FTy → Type} [FloatOps F]

/-- The scale column at row `r` is the scale at lane `r`, whatever the column. -/
theorem handCol_apply (v8 : FVec F S1x1x128 .f32) (r q : Fin 128) : handCol v8 (ix2 r q : S128x128.Idx) = v8 (ix3 0 0 r : S1x1x128.Idx) := by
  pointwise [handCol]

/-- A write of a rectangle of a rank-2 buffer, read at an index. -/
theorem put2_apply {α : Type} {n0 n1 k0 k1 : Nat} (x : (⟨2, ![n0, n1]⟩ : Shape).Idx → α) (r q : Nat)
    (w : (⟨2, ![k0, k1]⟩ : Shape).Idx → α) (a : Fin n0) (b : Fin n1) :
    put x ![r, q] ![k0, k1] w (ix2 a b) =
      if h : (r ≤ a.val ∧ a.val < r + k0) ∧ (q ≤ b.val ∧ b.val < q + k1) then
        w (ix2 ⟨a.val - r, by omega⟩ ⟨b.val - q, by omega⟩) else x (ix2 a b) := by
  unfold VecWindow.put
  by_cases h : (r ≤ a.val ∧ a.val < r + k0) ∧ (q ≤ b.val ∧ b.val < q + k1)
  · rw [dif_pos h, dif_pos (fun i => by fin_cases i; exacts [h.1, h.2])]
    refine congrArg w (funext fun i => ?_)
    fin_cases i <;> rfl
  · rw [dif_neg h, dif_neg (fun h' => h ⟨h' 0, h' 1⟩)]

/-- One tile put into a score buffer, read at an index. -/
theorem tileV_apply (v7 : FVec F S1024x256 .f32) (v8 : FVec F S1x1x128 .f32) (r q : Nat) (hr : r + 128 ≤ 1024) (hq : q + 128 ≤ 256)
    (x : Vec F S1024x256 .f32) (a : Fin 1024) (b : Fin 256) :
    tileV v7 (handCol v8) r q hr hq x (ix2 a b : S1024x256.Idx) =
      if h : (r ≤ a.val ∧ a.val < r + 128) ∧ (q ≤ b.val ∧ b.val < q + 128) then
        FloatOps.mulf (v7 (ix2 a b : S1024x256.Idx)) (v8 (ix3 0 0 ⟨a.val - r, by omega⟩ : S1x1x128.Idx)) else x (ix2 a b : S1024x256.Idx) := by
  unfold tileV
  refine (put2_apply x r q _ a b).trans ?_
  by_cases h : (r ≤ a.val ∧ a.val < r + 128) ∧ (q ≤ b.val ∧ b.val < q + 128)
  · rw [dif_pos h, dif_pos h]
    pointwise [handCol_apply]
    congr 3 <;> (apply Fin.ext; show _ + _ = _; omega)
  · rw [dif_neg h, dif_neg h]

/-- The scale read for row `a` of a score buffer whose first tile row takes row `b` of the scale block. -/
def scaleAt (w : Vec F S1x16x128 .f32) (b a : Nat) : F .f32 :=
  w (ix3 0 ⟨(b + a / 128) % 16, Nat.mod_lt _ (by decide)⟩ ⟨a % 128, Nat.mod_lt _ (by decide)⟩ : S1x16x128.Idx)

/-- A score buffer after `n` tile rows have been put, read at an index: inside them the product scaled, elsewhere as before. -/
theorem tilesV_apply (w : Vec F S1x16x128 .f32) (v7 : FVec F S1024x256 .f32) (a : Fin 1024) (q : Fin 256) :
    ∀ (n t b : Nat) (hb : b + n ≤ 16) (ht : t * 128 + 128 * n ≤ 1024) (htb : t ≤ b) (x : Vec F S1024x256 .f32),
    tilesV w v7 n t b hb ht x (ix2 a q : S1024x256.Idx) =
      if t * 128 ≤ a.val ∧ a.val < t * 128 + 128 * n then FloatOps.mulf (v7 (ix2 a q : S1024x256.Idx)) (scaleAt w (b - t) a.val)
      else x (ix2 a q : S1024x256.Idx)
  | 0, t, b, hb, ht, htb, x => by
    unfold tilesV
    rw [if_neg (by omega)]
  | n + 1, t, b, hb, ht, htb, x => by
    unfold tilesV
    rw [tilesV_apply w v7 a q n (t + 1) (b + 1) (by omega) (by omega) (by omega), tileV_apply, tileV_apply]
    have hq := q.isLt
    by_cases h : t * 128 ≤ a.val ∧ a.val < t * 128 + 128
    · rw [if_neg (by omega), if_pos (by omega)]
      have key : ∀ p : a.val - t * 128 < 128, (window w ![0, b, 0] S1x1x128.size (inbW b (by omega)) : Vec F S1x1x128 .f32) (ix3 0 0 ⟨a.val - t * 128, p⟩ : S1x1x128.Idx) = scaleAt w (b - t) a.val := by
        intro p
        unfold window scaleAt
        refine congrArg w (funext fun i => ?_)
        have h1 : (b - t + a.val / 128) % 16 = b := by
          have : a.val / 128 = t := by omega
          rw [this]; omega
        have h2 : a.val % 128 = a.val - t * 128 := by omega
        fin_cases i <;> apply Fin.ext
        · rfl
        · show b + 1 * 0 = (b - t + a.val / 128) % 16
          omega
        · show 0 + 1 * (a.val - t * 128) = a.val % 128
          omega
      by_cases h2 : q.val < 128
      · rw [dif_neg (by omega), dif_pos (by omega), key]
      · rw [dif_pos (by omega), key]
    · rw [dif_neg (by omega), dif_neg (by omega)]
      have e : b + 1 - (t + 1) = b - t := by omega
      rw [e]
      by_cases h2 : t * 128 ≤ a.val ∧ a.val < t * 128 + 128 * (n + 1)
      · rw [if_pos (by omega), if_pos h2]
      · rw [if_neg (by omega), if_neg h2]

/-- The scores of 1024 rows do not depend on what the buffer held; each is the product scaled by its row's scale. -/
theorem scoreV_apply (x : Vec F S256x4096 .bf16) (c : Vec F S2048x4096 .i8) (w : Vec F S1x16x128 .f32) (r b : Nat) (hr : r + 1024 ≤ 2048)
    (hb : b + 8 ≤ 16) (s : Vec F S1024x256 .f32) (a : Fin 1024) (q : Fin 256) :
    scoreV x c w r b hr hb s (ix2 a q : S1024x256.Idx) = FloatOps.mulf
      (handDot (window c ![r, 0] S1024x4096.size (inbC r hr)) (window x ![0, 0] S256x4096.size inb_S256x4096_S256x4096_0_0) (ix2 a q : S1024x256.Idx))
      (scaleAt w b a.val) := by
  unfold scoreV
  have := a.isLt
  rw [tilesV_apply w _ a q 8 0 b hb (by omega) (by omega), if_pos (by omega)]
  rfl

/-- A scored buffer does not depend on what was there before. -/
theorem scoreV_any (x : Vec F S256x4096 .bf16) (c : Vec F S2048x4096 .i8) (w : Vec F S1x16x128 .f32) (r b : Nat) (hr : r + 1024 ≤ 2048)
    (hb : b + 8 ≤ 16) (s s' : Vec F S1024x256 .f32) : scoreV x c w r b hr hb s = scoreV x c w r b hr hb s' := by
  funext y
  rw [eq_ix2 y]
  exact (scoreV_apply x c w r b hr hb s _ _).trans (scoreV_apply x c w r b hr hb s' _ _).symm

/-- The result buffer after both halves have been put does not depend on what it held. -/
theorem finishV_any (t : Vec F S50x8x256 .f32) (o o' : Vec F S256x50 .f32) :
    finishV t 128 (by omega) (finishV t 0 (by omega) o) = finishV t 128 (by omega) (finishV t 0 (by omega) o') := by
  funext y
  rw [eq_ix2 y]
  unfold finishV
  have h0 : (y 0).val < 256 := (y 0).isLt
  have h1 : (y 1).val < 50 := (y 1).isLt
  refine (put2_apply _ 128 0 _ (y 0) (y 1)).trans (Eq.trans ?_ (put2_apply _ 128 0 _ (y 0) (y 1)).symm)
  by_cases h : 128 ≤ (y 0).val
  · rw [dif_pos ⟨⟨h, by omega⟩, by omega, by omega⟩, dif_pos ⟨⟨h, by omega⟩, by omega, by omega⟩]
  · rw [dif_neg (by omega), dif_neg (by omega)]
    refine (put2_apply _ 0 0 _ (y 0) (y 1)).trans (Eq.trans ?_ (put2_apply _ 0 0 _ (y 0) (y 1)).symm)
    rw [dif_pos ⟨⟨by omega, by omega⟩, by omega, by omega⟩, dif_pos ⟨⟨by omega, by omega⟩, by omega, by omega⟩]

end Cert.KernelIdeal
end
-- ==== Proof.Run.lean ====
/-
  The run of the whole kernel: what the two carried buffers hold before each grid point, what the result holds at the
  end, and the frame.
-/
module

public import proofs.«01_k».proof.Proof.Vals
public import Idealize.ShloMosaic.Lib.WordCmp
public import Idealize.ShloMosaic.Lib.Pipeline.FrameBody

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]

local notation "𝕄" => MT nD τ sig Unit (Elt F) ℕ (UR sig nD τ) ℕ

/-! ## The whole body, case by case -/

/-- The scores of the first 1024 rows of a block. -/
def lowS (X : Vec F S256x4096 .bf16) (D : Vec F S2048x4096 .i8) (Y : Vec F S1x16x128 .f32) : Vec F S1024x256 .f32 :=
  scoreV X D Y 0 0 (by omega) (by omega) (fun _ => Scalar.ofBits .f32 0#32)

/-- The scores of the last 1024 rows of a block. -/
def highS (X : Vec F S256x4096 .bf16) (D : Vec F S2048x4096 .i8) (Y : Vec F S1x16x128 .f32) : Vec F S1024x256 .f32 :=
  scoreV X D Y 1024 8 (by omega) (by omega) (fun _ => Scalar.ofBits .f32 0#32)

/-- The result read off the kept lists. -/
def outV (T : Vec F S50x8x256 .f32) : Vec F S256x50 .f32 :=
  finishV T 128 (by omega) (finishV T 0 (by omega) (fun _ => Scalar.ofBits .f32 0#32))

section
variable (c : Dev nD) (i : grid0.Coords) (arg1 : Memref sig .tc .vmem S256x4096 .bf16) (arg2 : Memref sig .tc .vmem S2048x4096 .i8) (arg3 : Memref sig .tc .vmem S1x16x128 .f32) (arg4 : Memref sig .tc .vmem S256x50 .f32) (arg5 : Memref sig .tc .vmem S50x8x256 .f32) (arg6 : Memref sig .tc .vmem S1024x256 .f32) (arg7 : Memref sig .tc .vmem S1024x256 .f32)
  (X : Vec F S256x4096 .bf16) (D : Vec F S2048x4096 .i8) (Y : Vec F S1x16x128 .f32) (O : Vec F S256x50 .f32)
  (T : Vec F S50x8x256 .f32) (S6 S7 : Vec F S1024x256 .f32)

/-- Everything the body touches, held at the given contents. -/
abbrev held (O : Vec F S256x50 .f32) (T : Vec F S50x8x256 .f32) (S6 S7 : Vec F S1024x256 .f32) : sProp 𝕄 :=
  iprop(own c arg1 X ∗ own c arg2 D ∗ own c arg3 Y ∗ own c arg4 O ∗ own c arg5 T ∗ own c arg6 S6 ∗ own c arg7 S7)

/-- The kept lists after a grid point that is not the last. -/
def nextT : Vec F S50x8x256 .f32 := selectV (lowS X D Y) (selectV S7 T)

/-- A point that is not the last: the kept lists and both score buffers move on, the result stays. -/
theorem wp_body (Q : PUnit → sProp 𝕄) (hc : ¬ k0_cond2 i = 1#1) :
    held c arg1 arg2 arg3 arg4 arg5 arg6 arg7 X D Y O T S6 S7 ⊢
      iprop((held c arg1 arg2 arg3 arg4 arg5 arg6 arg7 X D Y O (nextT X D Y T S7) (lowS X D Y) (highS X D Y) -∗ Q ⟨⟩)
        -∗ W c (handBody i arg1 arg2 arg3 arg4 arg5 arg6 arg7) Q) := by
  iintro ⟨H1, H2, H3, H4, H5, H6, H7⟩ K
  unfold handBody nextT
  iapply (wp_seq c _ _ Q)
  iapply (wp_score c arg1 arg2 arg3 arg6 0 0 _ _ X D Y S6 _) $$ [H1 H2 H3 H6]
  · isplitl [H1]; · iexact H1
    isplitl [H2]; · iexact H2
    isplitl [H3]; · iexact H3
    iexact H6
  iintro ⟨H1, H2, H3, H6⟩
  iapply (wp_seq c _ _ Q)
  iapply (wp_select c arg7 arg5 S7 T _) $$ [H7 H5]
  · isplitl [H7]; · iexact H7
    iexact H5
  iintro ⟨H7, H5⟩
  iapply (wp_seq c _ _ Q)
  iapply (wp_score c arg1 arg2 arg3 arg7 1024 8 _ _ X D Y S7 _) $$ [H1 H2 H3 H7]
  · isplitl [H1]; · iexact H1
    isplitl [H2]; · iexact H2
    isplitl [H3]; · iexact H3
    iexact H7
  iintro ⟨H1, H2, H3, H7⟩
  iapply (wp_seq c _ _ Q)
  iapply (wp_select c arg6 arg5 _ _ _) $$ [H6 H5]
  · isplitl [H6]; · iexact H6
    iexact H5
  iintro ⟨H6, H5⟩
  rw [dif_neg hc]
  unfold W; rw [wp_ret]; imodintro
  rw [scoreV_any X D Y 0 0 _ _ S6 (fun _ => Scalar.ofBits .f32 0#32), scoreV_any X D Y 1024 8 _ _ S7 (fun _ => Scalar.ofBits .f32 0#32)]
  iapply K
  unfold held lowS highS
  isplitl [H1]; · iexact H1
  isplitl [H2]; · iexact H2
  isplitl [H3]; · iexact H3
  isplitl [H4]; · iexact H4
  isplitl [H5]; · iexact H5
  isplitl [H6]; · iexact H6
  iexact H7

/-- The kept lists after the last grid point. -/
def lastT : Vec F S50x8x256 .f32 := selectV (highS X D Y) (nextT X D Y T S7)

/-- The last point: the result is written too. -/
theorem wp_body_last (Q : PUnit → sProp 𝕄) (hc : k0_cond2 i = 1#1) :
    held c arg1 arg2 arg3 arg4 arg5 arg6 arg7 X D Y O T S6 S7 ⊢
      iprop((held c arg1 arg2 arg3 arg4 arg5 arg6 arg7 X D Y (outV (lastT X D Y T S7)) (lastT X D Y T S7) (lowS X D Y) (highS X D Y) -∗ Q ⟨⟩)
        -∗ W c (handBody i arg1 arg2 arg3 arg4 arg5 arg6 arg7) Q) := by
  iintro ⟨H1, H2, H3, H4, H5, H6, H7⟩ K
  unfold handBody lastT nextT
  iapply (wp_seq c _ _ Q)
  iapply (wp_score c arg1 arg2 arg3 arg6 0 0 _ _ X D Y S6 _) $$ [H1 H2 H3 H6]
  · isplitl [H1]; · iexact H1
    isplitl [H2]; · iexact H2
    isplitl [H3]; · iexact H3
    iexact H6
  iintro ⟨H1, H2, H3, H6⟩
  iapply (wp_seq c _ _ Q)
  iapply (wp_select c arg7 arg5 S7 T _) $$ [H7 H5]
  · isplitl [H7]; · iexact H7
    iexact H5
  iintro ⟨H7, H5⟩
  iapply (wp_seq c _ _ Q)
  iapply (wp_score c arg1 arg2 arg3 arg7 1024 8 _ _ X D Y S7 _) $$ [H1 H2 H3 H7]
  · isplitl [H1]; · iexact H1
    isplitl [H2]; · iexact H2
    isplitl [H3]; · iexact H3
    iexact H7
  iintro ⟨H1, H2, H3, H7⟩
  iapply (wp_seq c _ _ Q)
  iapply (wp_select c arg6 arg5 _ _ _) $$ [H6 H5]
  · isplitl [H6]; · iexact H6
    iexact H5
  iintro ⟨H6, H5⟩
  rw [dif_pos hc]
  iapply (wp_seq c _ _ Q)
  iapply (wp_select c arg7 arg5 _ _ _) $$ [H7 H5]
  · isplitl [H7]; · iexact H7
    iexact H5
  iintro ⟨H7, H5⟩
  iapply (wp_seq c _ _ Q)
  iapply (wp_finish c arg5 arg4 _ O 0 _ _) $$ [H5 H4]
  · isplitl [H5]; · iexact H5
    iexact H4
  iintro ⟨H5, H4⟩
  iapply (wp_finish c arg5 arg4 _ _ 128 _ _) $$ [H5 H4]
  · isplitl [H5]; · iexact H5
    iexact H4
  iintro ⟨H5, H4⟩
  rw [finishV_any _ O (fun _ => Scalar.ofBits .f32 0#32), scoreV_any X D Y 0 0 _ _ S6 (fun _ => Scalar.ofBits .f32 0#32),
    scoreV_any X D Y 1024 8 _ _ S7 (fun _ => Scalar.ofBits .f32 0#32)]
  iapply K
  unfold held lowS highS outV
  isplitl [H1]; · iexact H1
  isplitl [H2]; · iexact H2
  isplitl [H3]; · iexact H3
  isplitl [H4]; · iexact H4
  isplitl [H5]; · iexact H5
  isplitl [H6]; · iexact H6
  iexact H7
end

/-! ## The grid points -/

variable (m : (ℓ : Loc nD τ sig) → Buf (Elt F) ℓ) (ρ : Dev nD → PrngReg)

/-- The first point is the one numbered 0, -/
theorem isFirst_iff (t : Fin cfg0.N) : isFirst (grid0.coords t) ↔ t.val % 44 = 0 := by
  have ht : t.val < 44 := Nat.lt_of_lt_of_eq t.isLt N_0
  have e0 : (grid0.coords t 0).val = t.val / 1 % 44 := Pipeline.Grid.coords_val t 0 (by decide) rfl
  simp only [isFirst, e0]
  word_cmp

/-- and the last the one numbered 43. -/
theorem isLast_iff (t : Fin cfg0.N) : k0_cond2 (grid0.coords t) = 1#1 ↔ t.val % 44 = 43 := by
  have ht : t.val < 44 := Nat.lt_of_lt_of_eq t.isLt N_0
  have e0 : (grid0.coords t 0).val = t.val / 1 % 44 := Pipeline.Grid.coords_val t 0 (by decide) rfl
  simp only [k0_cond2, e0]
  word_cmp

/-- The three operand blocks at a grid point. -/
abbrev blkX (c : Dev nD) (t : Fin cfg0.N) : Vec F S256x4096 .bf16 := iblk m c 0 t
/-- The codes' block of a grid point. -/
abbrev blkD (c : Dev nD) (t : Fin cfg0.N) : Vec F S2048x4096 .i8 := iblk m c 1 t
/-- The scales' block of a grid point. -/
abbrev blkY (c : Dev nD) (t : Fin cfg0.N) : Vec F S1x16x128 .f32 := iblk m c 2 t

/-- The kept lists and the score buffer still to be selected from, before each grid point (at the first, once set to minus
    infinity). -/
def carried (c : Dev nD) : (n : ℕ) → n ≤ cfg0.N → Vec F S50x8x256 .f32 × Vec F S1024x256 .f32
  | 0, _ => (initT, initS)
  | n + 1, h =>
    (nextT (blkX m c ⟨n, h⟩) (blkD m c ⟨n, h⟩) (blkY m c ⟨n, h⟩) (carried c n (Nat.le_of_succ_le h)).1 (carried c n (Nat.le_of_succ_le h)).2,
      highS (blkX m c ⟨n, h⟩) (blkD m c ⟨n, h⟩) (blkY m c ⟨n, h⟩))

/-- The kept lists after the last selection, made at the last grid point from what it is carried. -/
def lastAt (c : Dev nD) (t : Fin cfg0.N) : Vec F S50x8x256 .f32 :=
  lastT (blkX m c t) (blkD m c t) (blkY m c t) (carried m c t.val (Nat.le_of_lt t.isLt)).1 (carried m c t.val (Nat.le_of_lt t.isLt)).2

/-- The buffers of the windows and the scratch buffers at a grid point, and that each window's is a whole one. -/
abbrev ms0_0 (t : Fin cfg0.N) : Memref sig .tc .vmem S256x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x4096 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x50 .f32 := win0_3.stage (cfg0.slots t 3)
abbrev hs0_3 (t : Fin cfg0.N) : (ms0_3 t).IsWhole := hstage0_3 ((cfg0.slots t 3).cast nbuf0_3)
abbrev scM0_0 : Memref sig .tc .vmem S50x8x256 .f32 := Memref.whole cc0_scratch0
abbrev scM0_1 : Memref sig .tc .vmem S1024x256 .f32 := Memref.whole cc0_scratch1
abbrev scM0_2 : Memref sig .tc .vmem S1024x256 .f32 := Memref.whole cc0_scratch2

/-- What is held before the first point: the three scratch buffers, of any contents, and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- What is held between grid points: the kept lists and the score buffer at some contents `T`, `S`. -/
abbrev between (c : Dev nD) (T : Vec F S50x8x256 .f32) (S : Vec F S1024x256 .f32) : sProp 𝕄 :=
  iprop(iprop(own c scM0_0 T ∗ (∃ d, own c scM0_1 d) ∗ own c scM0_2 S) ∗ (∃ r, prngReg c r))

/-- The invariant before each grid point: before the first, the scratch at anything; after the last, the kept lists after
    the last selection; else what is carried. -/
def PhiS (c : Dev nD) : (n : ℕ) → n ≤ cfg0.N → sProp 𝕄
  | 0, _ => Pipeline.ΦA spec0 c
  | n + 1, hn => between c (if n % 44 = 43 then lastAt m c ⟨n, hn⟩ else (carried m c (n + 1) hn).1) (carried m c (n + 1) hn).2

/-- What holds before the first point, -/
theorem PhiS_zero (c : Dev nD) (n : ℕ) (h : n ≤ cfg0.N) (hz : n = 0) : PhiS m c n h = Pipeline.ΦA spec0 c := by
  subst hz; rfl

/-- after a point, -/
theorem PhiS_succ (c : Dev nD) (n : ℕ) (hn : n < cfg0.N) :
    PhiS m c (n + 1) hn = between c (if n % 44 = 43 then lastAt m c ⟨n, hn⟩ else (carried m c (n + 1) hn).1) (carried m c (n + 1) hn).2 := rfl

/-- and before a point that is not the first. -/
theorem PhiS_pos (c : Dev nD) (n : ℕ) (h : n < cfg0.N) (hz : n ≠ 0) :
    PhiS m c n (Nat.le_of_lt h) = between c (carried m c n (Nat.le_of_lt h)).1 (carried m c n (Nat.le_of_lt h)).2 := by
  have hN : n < 44 := lt_of_lt_of_eq h (show cfg0.N = 44 from N_0)
  cases n with
  | zero => exact absurd rfl hz
  | succ n =>
    rw [PhiS_succ m c n (Nat.lt_of_succ_lt h), if_neg (by omega)]

/-- The proof data: each input's block left in place, the result named after the last selection, the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outV (lastAt m c t)
  Φ t := PhiS m c t.val (Nat.le_of_lt_succ t.isLt)
  q _ := fullShare
  owed _ := 0

/-- The arrays that the windows are of. -/
theorem A_eq (c : Dev nD) (w : Fin cfg0.W) : (dats m 0 c).A w = V m c (Pipeline.arrRef spec0 w) := by
  dsimp only [dats]

/-- What holds before a point, read off the proof's data. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the windows' buffers hold after a point: the three inputs their blocks, the result what the lists say. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outV (lastAt m c t) := by dsimp only [dats]

/-- What the inputs' buffers hold before a point: their blocks. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

/-- The result's window where the body does not write it: handed back as it was found. -/
theorem leaves3_idle (c : Dev nD) (t : Fin cfg0.N) (h : ¬ t.val % 44 = 43) :
    (dats m 0 c).leavesExact 3 t = iprop(∃ d, owns (c : Thread nD τ) (ms0_3 t) fullShare ((dats m 0 c).before 3 t d)) := by
  refine Dat.leavesExact_idle (dats m 0 c) 3 t ?_ ?_
  · show (!(k0_cond2 (grid0.coords t) == 1#1)) = true
    have : k0_cond2 (grid0.coords t) ≠ 1#1 := fun h' => h ((isLast_iff t).mp h')
    simp [this]
  · exact Bool.eq_false_iff.mpr fun h' => h ((flush0_3 t).mp h')

/-- The result's window at the last point: the result. -/
theorem leaves3_last (c : Dev nD) (t : Fin cfg0.N) (h : t.val % 44 = 43) :
    (dats m 0 c).leavesExact 3 t = owns (c : Thread nD τ) (ms0_3 t) fullShare (outV (lastAt m c t)) := by
  have hi : cfg0.idle 3 (cfg0.grid.coords t) = false := by
    show (!(k0_cond2 (grid0.coords t) == 1#1)) = false
    rw [(isLast_iff t).mpr h]; rfl
  unfold Dat.leavesExact
  rw [hi, after0_3]

/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ, PhiS_castSucc m c t]
  rw [show (dats m 0 c).leavesExact 0 t = owns (c : Thread nD τ) (ms0_0 t) fullShare (iblk m c 0 t) from after0_0 m c t ▸ rfl,
    show (dats m 0 c).leavesExact 1 t = owns (c : Thread nD τ) (ms0_1 t) fullShare (iblk m c 1 t) from after0_1 m c t ▸ rfl,
    show (dats m 0 c).leavesExact 2 t = owns (c : Thread nD τ) (ms0_2 t) fullShare (iblk m c 2 t) from after0_2 m c t ▸ rfl]
  have hN : t.val < 44 := lt_of_lt_of_eq t.isLt (show cfg0.N = 44 from N_0)
  rw [body_eq]
  by_cases hz : t.val = 0
  · rw [PhiS_zero m c _ _ hz, PhiA0_eq, leaves3_idle m c t (by omega), if_neg (show ¬ t.val % 44 = 43 by omega), if_pos ((isFirst_iff t).mpr (by omega))]
    have e : carried m c t.val (Nat.le_of_lt t.isLt) = (initT, initS) := by
      obtain ⟨n, hn⟩ := t; cases hz; rfl
    rw [show carried m c (t.val + 1) t.isLt = (nextT (blkX m c t) (blkD m c t) (blkY m c t) (carried m c t.val (Nat.le_of_lt t.isLt)).1
      (carried m c t.val (Nat.le_of_lt t.isLt)).2, highS (blkX m c t) (blkD m c t) (blkY m c t)) from rfl, e]
    dsimp only
    iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩⟩
    iapply (wp_seq c _ _ _)
    iapply (wp_init c scM0_0 scM0_2 s0 s2 _) $$ [HS0 HS2]
    · isplitl [HS0]; · iexact HS0
      iexact HS2
    iintro ⟨HS0, HS2⟩
    iapply (wp_body c (grid0.coords t) (ms0_0 t) (ms0_1 t) (ms0_2 t) (ms0_3 t) scM0_0 scM0_1 scM0_2 (blkX m c t) (blkD m c t) (blkY m c t)
      ((dats m 0 c).before 3 t d3) initT s1 initS _ (fun h => by have := (isLast_iff t).mp h; omega)) $$ [H0 H1 H2 H3 HS0 HS1 HS2]
    · isplitl [H0]; · iexact H0
      isplitl [H1]; · iexact H1
      isplitl [H2]; · iexact H2
      isplitl [H3]; · iexact H3
      isplitl [HS0]; · iexact HS0
      isplitl [HS1]; · iexact HS1
      iexact HS2
    iintro ⟨H0, H1, H2, H3, HS0, HS1, HS2⟩
    isplitl [HS0 HS1 HS2 Hg]
    · isplitl [HS0 HS1 HS2]
      · isplitl [HS0]; · iexact HS0
        isplitl [HS1]; · iexists _; iexact HS1
        iexact HS2
      iexact Hg
    isplitl [Ho]; · iexact Ho
    isplitl [H0]; · iexact H0
    isplitl [H1]; · iexact H1
    isplitl [H2]; · iexact H2
    iexists d3; iexact H3
  · rw [PhiS_pos m c _ t.isLt hz, if_neg (fun h => by have := (isFirst_iff t).mp h; omega)]
    rw [show carried m c (t.val + 1) t.isLt = (nextT (blkX m c t) (blkD m c t) (blkY m c t) (carried m c t.val (Nat.le_of_lt t.isLt)).1
      (carried m c t.val (Nat.le_of_lt t.isLt)).2, highS (blkX m c t) (blkD m c t) (blkY m c t)) from rfl]
    dsimp only
    by_cases h1 : t.val % 44 = 43
    · rw [leaves3_last m c t h1, if_pos h1]
      iintro ⟨⟨⟨HS0, ⟨%s1, HS1⟩, HS2⟩, Hg⟩, Ho, ⟨%d0, H0⟩, ⟨%d1, H1⟩, ⟨%d2, H2⟩, ⟨%d3, H3⟩⟩
      iapply (wp_body_last c (grid0.coords t) (ms0_0 t) (ms0_1 t) (ms0_2 t) (ms0_3 t) scM0_0 scM0_1 scM0_2 (blkX m c t) (blkD m c t) (blkY m c t)
        ((dats m 0 c).before 3 t d3) _ s1 _ _ ((isLast_iff t).mpr h1)) $$ [H0 H1 H2 H3 HS0 HS1 HS2]
      · isplitl [H0]; · iexact H0
        isplitl [H1]; · iexact H1
        isplitl [H2]; · iexact H2
        isplitl [H3]; · iexact H3
        isplitl [HS0]; · iexact HS0
        isplitl [HS1]; · iexact HS1
        iexact HS2
      iintro ⟨H0, H1, H2, H3, HS0, HS1, HS2⟩
      isplitl [HS0 HS1 HS2 Hg]
      · isplitl [HS0 HS1 HS2]
        · isplitl [HS0]; · iexact HS0
          isplitl [HS1]; · iexists _; iexact HS1
          iexact HS2
        iexact Hg
      isplitl [Ho]; · iexact Ho
      isplitl [H0]; · iexact H0
      isplitl [H1]; · iexact H1
      isplitl [H2]; · iexact H2
      iexact H3
    · rw [leaves3_idle m c t h1, if_neg h1]
      iintro ⟨⟨⟨HS0, ⟨%s1, HS1⟩, HS2⟩, Hg⟩, Ho, ⟨%d0, H0⟩, ⟨%d1, H1⟩, ⟨%d2, H2⟩, ⟨%d3, H3⟩⟩
      iapply (wp_body c (grid0.coords t) (ms0_0 t) (ms0_1 t) (ms0_2 t) (ms0_3 t) scM0_0 scM0_1 scM0_2 (blkX m c t) (blkD m c t) (blkY m c t)
        ((dats m 0 c).before 3 t d3) _ s1 _ _ (fun h => h1 ((isLast_iff t).mp h))) $$ [H0 H1 H2 H3 HS0 HS1 HS2]
      · isplitl [H0]; · iexact H0
        isplitl [H1]; · iexact H1
        isplitl [H2]; · iexact H2
        isplitl [H3]; · iexact H3
        isplitl [HS0]; · iexact HS0
        isplitl [HS1]; · iexact HS1
        iexact HS2
      iintro ⟨H0, H1, H2, H3, HS0, HS1, HS2⟩
      isplitl [HS0 HS1 HS2 Hg]
      · isplitl [HS0 HS1 HS2]
        · isplitl [HS0]; · iexact HS0
          isplitl [HS1]; · iexists _; iexact HS1
          iexact HS2
        iexact Hg
      isplitl [Ho]; · iexact Ho
      isplitl [H0]; · iexact H0
      isplitl [H1]; · iexact H1
      isplitl [H2]; · iexact H2
      iexists d3; iexact H3

/-- The program called at a point is the kernel's body there. -/
theorem defs₀_row (t : Fin cfg0.N) :
    defs₀ (F := F) .tc cfg0.body (cfg0.bodyArgs t (cfg0.slots t)) = bodyAt0 t := by
  unfold defs₀; rw [Defs.onTc_tc]

/-- The body's obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What is held at first is what the first point asks for, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and what the last point leaves gives it back. -/
theorem hout (c : Dev nD) : (dats m 0 c).Φ (Fin.last cfg0.N) ⊢ Pipeline.ΦA spec0 c := by
  rw [show (dats m 0 c).Φ (Fin.last cfg0.N) = PhiS m c (43 + 1) (by rw [show cfg0.N = 44 from N_0]) from rfl, PhiS_succ, PhiA0_eq]
  iintro ⟨⟨HS0, HS1, HS2⟩, Hg⟩
  isplitl [HS0 HS1 HS2]
  · isplitl [HS0]
    · iexists _; iexact HS0
    isplitl [HS1]
    · iexact HS1
    iexists _; iexact HS2
  iexact Hg

set_option backward.isDefEq.respectTransparency.types false in
set_option maxHeartbeats 800000 in
/-- Every execution of the program ends with the arrays as the proof data say and every semaphore at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)
    (hQ' := fun _ h => h)

/-- Every execution of the program ends with its arguments unchanged and every semaphore at zero. -/
theorem quiet : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c)⟩, h.2⟩) (run_main m ρ)

end Cert.KernelIdeal
end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Run
public import Idealize.ShloMosaic.Lib.Tactic
public import Idealize.ShloMosaic.Lib.Quiescent

/-! The frames: each of the three programs runs to its end, leaves its arguments unchanged and every semaphore at zero.
    The kernel over words is the same program text as the kernel over the extended reals, so one proof, made for
    any reading of the floats, serves both. -/

@[expose] public section

noncomputable section

namespace Cert.Proof

open Idealize.ShloMosaic Idealize.ShloMosaic.Tactic Idealize.ShloMosaic.TcCoe Idealize.SL.Sem

attribute [local instance] Cert.Kernel.Gen.facts Cert.KernelIdeal.Gen.facts Cert.ReferenceIdeal.Gen.facts

/-- The two printed programs have the same procedures, -/
theorem defs_eq : Cert.Kernel.defs (F := Bits) = Cert.KernelIdeal.defs (F := Bits) := by
  sl_kernel_rfl

/-- and the same main. -/
theorem main_eq : Cert.Kernel.main (F := Bits) = Cert.KernelIdeal.main (F := Bits) := by
  sl_kernel_rfl

/-- The kernel over words runs, its arguments unchanged. -/
theorem frame_kernel : Cert.quiescent_Kernel (hKernel := Cert.Kernel.Gen.facts) := fun m g _ => by
  rw [defs_eq, main_eq]
  exact Cert.KernelIdeal.quiet (F := Bits) m g

/-- The kernel over the extended reals runs, its arguments unchanged. -/
theorem frame_kernelIdeal : Cert.quiescent_KernelIdeal (hKernelIdeal := Cert.KernelIdeal.Gen.facts) := fun m g _ =>
  Cert.KernelIdeal.quiet (F := Ideal) m g

/-- The reference over the extended reals runs, its arguments unchanged. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof

end
-- ==== Proof.NetFacts.lean ====
/-
  What the merge networks compute. A network of "greater" and "lesser" commutes with every map that respects the two
  operations; so it is enough to know what it does to truth values, and there it only counts: a descending list of truth
  values is the number of its trues.
-/
module

public import proofs.«01_k».proof.Proof.Net
public import Mathlib.Data.List.Basic
public import Mathlib.Algebra.Order.BigOperators.Group.Finset
public import Mathlib.Algebra.BigOperators.Fin

@[expose] public section

namespace Net

variable {α β : Type}

/-! ## Networks commute with maps that respect the two operations -/

/-- The even positions commute with a map. -/
theorem evens_map (φ : α → β) : ∀ l : List α, (evens l).map φ = evens (l.map φ)
  | [] => rfl
  | [_] => rfl
  | a :: _ :: l => congrArg (φ a :: ·) (evens_map φ l)

/-- The odd positions commute with a map. -/
theorem odds_map (φ : α → β) : ∀ l : List α, (odds l).map φ = odds (l.map φ)
  | [] => rfl
  | [_] => rfl
  | _ :: b :: l => congrArg (φ b :: ·) (odds_map φ l)

section
variable (mx mn : α → α → α) (mx' mn' : β → β → β) (φ : α → β) (hmx : ∀ a b, φ (mx a b) = mx' (φ a) (φ b)) (hmn : ∀ a b, φ (mn a b) = mn' (φ a) (φ b))
include hmx hmn

/-- The last stage of the odd-even merge commutes with a map that respects both operations. -/
theorem weave_map : ∀ os es : List α, (weave mx mn os es).map φ = weave mx' mn' (os.map φ) (es.map φ)
  | [], _ => rfl
  | _ :: _, [] => rfl
  | o :: os, e :: es => by
    show φ (mx o e) :: φ (mn o e) :: (weave mx mn os es).map φ = mx' (φ o) (φ e) :: mn' (φ o) (φ e) :: weave mx' mn' (os.map φ) (es.map φ)
    rw [hmx, hmn, weave_map os es]

/-- So does that stage with the first element set apart, -/
theorem headWeave_map : ∀ es os : List α, (headWeave mx mn es os).map φ = headWeave mx' mn' (es.map φ) (os.map φ)
  | [], _ => rfl
  | e :: es, os => congrArg (φ e :: ·) (weave_map mx mn mx' mn' φ hmx hmn os es)

/-- the whole odd-even merge, -/
theorem oddEven_map : ∀ (n : Nat) (a b : List α), (oddEven mx mn n a b).map φ = oddEven mx' mn' n (a.map φ) (b.map φ)
  | 0, [], _ => rfl
  | 0, _ :: _, [] => rfl
  | 0, a :: _, b :: _ => by
    show [φ (mx a b), φ (mn a b)] = [mx' (φ a) (φ b), mn' (φ a) (φ b)]
    rw [hmx, hmn]
  | n + 1, a, b => by
    unfold oddEven
    rw [headWeave_map mx mn mx' mn' φ hmx hmn, oddEven_map n, oddEven_map n, evens_map, evens_map, odds_map, odds_map]

/-- one level of the merge sort, -/
theorem mergePairs_map (n : Nat) : ∀ l : List (List α), (mergePairs mx mn n l).map (List.map φ) = mergePairs mx' mn' n (l.map (List.map φ))
  | [] => rfl
  | [_] => rfl
  | a :: b :: l => by
    show (oddEven mx mn n a b).map φ :: (mergePairs mx mn n l).map (List.map φ) = oddEven mx' mn' n (a.map φ) (b.map φ) :: mergePairs mx' mn' n (l.map (List.map φ))
    rw [oddEven_map mx mn mx' mn' φ hmx hmn, mergePairs_map n l]

omit hmx hmn in
/-- the choice of the first list, -/
theorem first_map : ∀ l : List (List α), (first l).map φ = first (l.map (List.map φ))
  | [] => rfl
  | _ :: _ => rfl

omit hmx hmn in
/-- the split into lists of one, -/
theorem singles_map : ∀ l : List α, (singles l).map (List.map φ) = singles (l.map φ)
  | [] => rfl
  | a :: l => congrArg ([φ a] :: ·) (singles_map l)

/-- the sort of 64, -/
theorem sort64_map (l : List α) : (sort64 mx mn l).map φ = sort64 mx' mn' (l.map φ) := by
  unfold sort64
  rw [first_map]
  repeat rw [mergePairs_map mx mn mx' mn' φ hmx hmn]
  rw [singles_map]

omit hmx hmn in
/-- an operation applied to two lists element by element, -/
theorem zip2_map (f : α → α → α) (f' : β → β → β) (hf : ∀ a b, φ (f a b) = f' (φ a) (φ b)) :
    ∀ a b : List α, (zip2 f a b).map φ = zip2 f' (a.map φ) (b.map φ)
  | [], _ => rfl
  | _ :: _, [] => rfl
  | a :: as, b :: bs => by
    show φ (f a b) :: (zip2 f as bs).map φ = f' (φ a) (φ b) :: zip2 f' (as.map φ) (bs.map φ)
    rw [hf, zip2_map f f' hf as bs]

/-- the bitonic merge, -/
theorem bitonic_map : ∀ (n : Nat) (l : List α), (bitonic mx mn n l).map φ = bitonic mx' mn' n (l.map φ)
  | 0, _ => rfl
  | n + 1, l => by
    unfold bitonic
    rw [List.map_append, bitonic_map n, bitonic_map n, zip2_map φ mx mx' hmx, zip2_map φ mn mn' hmn, List.map_take, List.map_drop]

/-- and the merge that keeps 50. -/
theorem topMerge_map (a b : List α) : (topMerge mx mn a b).map φ = topMerge mx' mn' (a.map φ) (b.map φ) := by
  unfold topMerge facing
  rw [List.map_take, bitonic_map mx mn mx' mn' φ hmx hmn, List.map_append, List.map_append, zip2_map φ mx mx' hmx, List.map_reverse,
    List.map_reverse, List.map_take, List.map_take, List.map_drop, List.map_drop]

end

/-! ## On truth values they count -/

/-- The list of the first `n` values of a function. -/
def tab {γ : Type} (n : Nat) (f : Nat → γ) : List γ := (List.range n).map f

/-- Such a list has `n` elements, -/
theorem tab_length {γ : Type} (n : Nat) (f : Nat → γ) : (tab n f).length = n := by simp [tab]

/-- the function's values, -/
theorem tab_getElem {γ : Type} (n : Nat) (f : Nat → γ) (i : Nat) (h : i < (tab n f).length) : (tab n f)[i] = f i := by
  simp [tab]

/-- and depends on those values alone. -/
theorem tab_congr {γ : Type} {n : Nat} {f g : Nat → γ} (h : ∀ i < n, f i = g i) : tab n f = tab n g :=
  List.map_congr_left fun i hi => h i (List.mem_range.mp hi)

/-- Its first element set apart. -/
theorem tab_succ {γ : Type} (n : Nat) (f : Nat → γ) : tab (n + 1) f = f 0 :: tab n (fun i => f (i + 1)) := by
  unfold tab
  rw [List.range_succ_eq_map, List.map_cons, List.map_map]
  rfl

/-- Its first `k` elements. -/
theorem tab_take {γ : Type} (n k : Nat) (f : Nat → γ) (h : k ≤ n) : (tab n f).take k = tab k f := by
  unfold tab
  rw [← List.map_take, List.take_range, Nat.min_eq_left h]

/-- Two such lists put together. -/
theorem tab_append {γ : Type} : ∀ (n k : Nat) (f g : Nat → γ), tab n f ++ tab k g = tab (n + k) fun i => if i < n then f i else g (i - n)
  | 0, k, f, g => by
    rw [Nat.zero_add]
    exact tab_congr fun i _ => by simp
  | n + 1, k, f, g => by
    rw [tab_succ, List.cons_append, tab_append n k, Nat.add_right_comm, tab_succ]
    refine congrArg₂ List.cons (by simp) (tab_congr fun i _ => ?_)
    simp only [Nat.add_lt_add_iff_right, Nat.add_sub_add_right]

/-- Such a list cut in two. -/
theorem tab_split {γ : Type} (k n : Nat) (f : Nat → γ) : tab (k + n) f = tab k f ++ tab n fun i => f (i + k) := by
  rw [tab_append]
  refine tab_congr fun i _ => ?_
  by_cases h : i < k
  · simp [h]
  · simp only [h, if_false]
    congr 1
    omega

/-- What is left without its first `k` elements. -/
theorem tab_drop {γ : Type} (k n : Nat) (f : Nat → γ) : (tab (k + n) f).drop k = tab n fun i => f (i + k) := by
  rw [tab_split, List.drop_append_of_le_length (by rw [tab_length]), List.drop_eq_nil_of_le (by rw [tab_length]), List.nil_append]

/-- Such a list backwards. -/
theorem tab_reverse {γ : Type} (n : Nat) (f : Nat → γ) : (tab n f).reverse = tab n fun i => f (n - 1 - i) := by
  refine List.ext_getElem (by simp [tab_length]) fun i h1 h2 => ?_
  rw [List.getElem_reverse, tab_getElem, tab_getElem, tab_length]

/-- Two such lists combined element by element. -/
theorem tab_zip2 {γ : Type} (g : γ → γ → γ) : ∀ (n : Nat) (f f' : Nat → γ), zip2 g (tab n f) (tab n f') = tab n fun i => g (f i) (f' i)
  | 0, _, _ => rfl
  | n + 1, f, f' => by
    rw [tab_succ, tab_succ, tab_succ]
    exact congrArg (g (f 0) (f' 0) :: ·) (tab_zip2 g n _ _)

/-- The descending list of `n` truth values of which the first `c` are true (all, if `c` is greater than `n`). -/
def desc (n c : Nat) : List Bool := tab n fun i => decide (i < c)

/-- A descending list is told by which positions come before the count. -/
theorem desc_congr {n c d : Nat} (h : ∀ i < n, i < c ↔ i < d) : desc n c = desc n d :=
  tab_congr fun i hi => decide_eq_decide.mpr (h i hi)

/-- A count greater than the length is as good as the length. -/
theorem desc_min (n c : Nat) : desc n c = desc n (min c n) := desc_congr fun i hi => by omega

/-- The first `k` of a descending list. -/
theorem desc_take (n k c : Nat) (h : k ≤ n) : (desc n c).take k = desc k c := tab_take n k _ h

/-- An element of a descending list. -/
theorem desc_getElem (n c i : Nat) (h : i < (desc n c).length) : (desc n c)[i] = decide (i < c) := tab_getElem n _ i h

/-- A descending list's first element set apart. -/
theorem desc_succ (n c : Nat) : desc (n + 1) c = decide (0 < c) :: desc n (c - 1) := by
  unfold desc
  rw [tab_succ]
  exact congrArg _ (tab_congr fun i _ => decide_eq_decide.mpr (by omega))

/-- The even positions of a descending list hold half of its trues, rounded up, -/
theorem evens_desc : ∀ m c : Nat, evens (desc (2 * m) c) = desc m ((c + 1) / 2)
  | 0, _ => rfl
  | m + 1, c => by
    rw [show 2 * (m + 1) = 2 * m + 1 + 1 from rfl, desc_succ, desc_succ, desc_succ]
    show _ :: evens (desc (2 * m) _) = _
    rw [evens_desc m]
    exact congrArg₂ List.cons (decide_eq_decide.mpr (by omega)) (congrArg _ (by omega))

/-- and the odd ones half, rounded down. -/
theorem odds_desc : ∀ m c : Nat, odds (desc (2 * m) c) = desc m (c / 2)
  | 0, _ => rfl
  | m + 1, c => by
    rw [show 2 * (m + 1) = 2 * m + 1 + 1 from rfl, desc_succ, desc_succ, desc_succ]
    show _ :: odds (desc (2 * m) _) = _
    rw [odds_desc m]
    exact congrArg₂ List.cons (decide_eq_decide.mpr (by omega)) (congrArg _ (by omega))

/-- The last stage puts the two halves' trues in order, if their numbers differ by at most one. -/
theorem weave_desc : ∀ n o e : Nat, e ≤ n → o ≤ e + 1 → e ≤ o + 1 → weave or and (desc (n + 1) o) (desc n e) = desc (2 * n + 1) (o + e)
  | 0, o, e, h, _, _ => by
    rw [desc_succ]
    show [_] = desc (0 + 1) _
    rw [desc_succ, show o + e = o by omega]
    rfl
  | n + 1, o, e, h, h1, h2 => by
    rw [desc_succ, desc_succ n e, show 2 * (n + 1) + 1 = 2 * n + 1 + 1 + 1 by omega, desc_succ (2 * n + 1 + 1), desc_succ (2 * n + 1)]
    show (decide (0 < o) || decide (0 < e)) :: (decide (0 < o) && decide (0 < e)) :: weave or and (desc (n + 1) (o - 1)) (desc n (e - 1)) = _
    rw [weave_desc n (o - 1) (e - 1) (by omega) (by omega) (by omega), ← Bool.decide_or, ← Bool.decide_and]
    exact congrArg₂ List.cons (decide_eq_decide.mpr (by omega)) (congrArg₂ List.cons (decide_eq_decide.mpr (by omega)) (congrArg _ (by omega)))

/-- The odd-even merge of two descending lists of truth values has as many trues as both. -/
theorem oddEven_desc : ∀ k a b : Nat, a ≤ 2 ^ k → b ≤ 2 ^ k → oddEven or and k (desc (2 ^ k) a) (desc (2 ^ k) b) = desc (2 ^ (k + 1)) (a + b)
  | 0, a, b, ha, hb => by
    rw [show 2 ^ 0 = 0 + 1 from rfl, show 2 ^ (0 + 1) = 0 + 1 + 1 from rfl, desc_succ, desc_succ 0 b, desc_succ, desc_succ 0]
    show [(decide (0 < a) || decide (0 < b)), (decide (0 < a) && decide (0 < b))] = [_, _]
    have ha' : a ≤ 1 := ha
    have hb' : b ≤ 1 := hb
    rw [← Bool.decide_or, ← Bool.decide_and]
    exact congrArg₂ List.cons (decide_eq_decide.mpr (by omega)) (congrArg₂ List.cons (decide_eq_decide.mpr (by omega)) rfl)
  | k + 1, a, b, ha, hb => by
    have hp : 2 ^ (k + 1) = 2 * 2 ^ k := by rw [Nat.pow_succ, Nat.mul_comm]
    have h1 : 1 ≤ 2 ^ k := Nat.one_le_two_pow
    have hp2 : 2 ^ (k + 1 + 1) = 2 * (2 * 2 ^ k - 1) + 1 + 1 := by rw [Nat.pow_succ, hp]; omega
    rw [hp2]
    rw [hp] at ha hb ⊢
    unfold oddEven
    rw [evens_desc, evens_desc, odds_desc, odds_desc, oddEven_desc k ((a + 1) / 2) ((b + 1) / 2) (by omega) (by omega),
      oddEven_desc k (a / 2) (b / 2) (by omega) (by omega), hp]
    obtain ⟨n, hn⟩ : ∃ n, 2 * 2 ^ k = n + 1 := ⟨2 * 2 ^ k - 1, by omega⟩
    rw [hn, desc_succ]
    show decide _ :: weave or and _ _ = _
    rw [weave_desc n (a / 2 + b / 2) ((a + 1) / 2 + (b + 1) / 2 - 1) (by omega) (by omega) (by omega), Nat.add_sub_cancel, desc_succ (2 * n + 1)]
    exact congrArg₂ List.cons (decide_eq_decide.mpr (by omega)) (desc_congr fun i hi => by omega)

/-- The list of truth values that are `v` outside the positions from `x` to before `y`, and not `v` there. -/
def gap (v : Bool) (n x y : Nat) : List Bool := tab n fun i => if x ≤ i ∧ i < y then !v else v

/-- The two halves of a list combined element by element. -/
theorem halves (f : Nat → Bool) (h : Nat) (g : Bool → Bool → Bool) :
    zip2 g ((tab (h + h) f).take h) ((tab (h + h) f).drop h) = tab h fun i => g (f i) (f (i + h)) := by
  rw [tab_take _ _ _ (by omega), tab_drop, tab_zip2]

/-- Two descending lists put together descend if the first is full or the second empty. -/
theorem desc_append (h a b : Nat) (hab : h ≤ a ∨ b = 0) (ha : a ≤ h) : desc h a ++ desc h b = desc (h + h) (a + b) := by
  unfold desc
  rw [tab_append]
  refine tab_congr fun i hi => ?_
  by_cases h1 : i < h
  · simp only [h1, if_true]
    exact decide_eq_decide.mpr (by omega)
  · simp only [h1, if_false]
    exact decide_eq_decide.mpr (by omega)

/-- A choice by equivalent conditions. -/
theorem tab_if {n : Nat} (p q : Nat → Prop) [DecidablePred p] [DecidablePred q] (h : ∀ i < n, p i ↔ q i) (v w : Bool) :
    (tab n fun i => if p i then v else w) = tab n fun i => if q i then v else w :=
  tab_congr fun i hi => by
    by_cases hp : p i
    · rw [if_pos hp, if_pos ((h i hi).mp hp)]
    · rw [if_neg hp, if_neg fun hq => hp ((h i hi).mpr hq)]

/-- The bitonic merge of a list of truth values with one gap: as many trues, and they come first. -/
theorem bitonic_gap : ∀ (n : Nat) (v : Bool) (x y : Nat), x ≤ y → y ≤ 2 ^ n →
    bitonic or and n (gap v (2 ^ n) x y) = desc (2 ^ n) (if v then 2 ^ n - (y - x) else y - x)
  | 0, v, x, y, hx, hy => by
    have hy' : y ≤ 1 := hy
    show gap v 1 x y = desc 1 _
    refine tab_congr fun i hi => ?_
    have : 2 ^ 0 = 1 := rfl
    cases v
    · by_cases h : x ≤ i ∧ i < y
      · rw [if_pos h]; exact (decide_eq_true (by simp; omega)).symm
      · rw [if_neg h]; exact (decide_eq_false (by simp; omega)).symm
    · by_cases h : x ≤ i ∧ i < y
      · rw [if_pos h]; exact (decide_eq_false (by simp; omega)).symm
      · rw [if_neg h]; exact (decide_eq_true (by simp; omega)).symm
  | n + 1, v, x, y, hx, hy => by
    have hp : 2 ^ (n + 1) = 2 ^ n + 2 ^ n := by rw [Nat.pow_succ]; omega
    rw [hp] at hy ⊢
    unfold bitonic gap
    rw [halves, halves]
    generalize hh : 2 ^ n = h at *
    -- the two halves, each again a list with one gap
    have key : ∃ (a b : Nat) (u w : Bool) (x' y' x'' y'' : Nat), x' ≤ y' ∧ y' ≤ h ∧ x'' ≤ y'' ∧ y'' ≤ h
        ∧ (∀ i < h, ((if x ≤ i ∧ i < y then !v else v) || (if x ≤ i + h ∧ i + h < y then !v else v)) = if x' ≤ i ∧ i < y' then !u else u)
        ∧ (∀ i < h, ((if x ≤ i ∧ i < y then !v else v) && (if x ≤ i + h ∧ i + h < y then !v else v)) = if x'' ≤ i ∧ i < y'' then !w else w)
        ∧ (if u then h - (y' - x') else y' - x') = a ∧ (if w then h - (y'' - x'') else y'' - x'') = b
        ∧ (h ≤ a ∨ b = 0) ∧ a ≤ h ∧ (if v then h + h - (y - x) else y - x) = a + b := by
      by_cases h1 : y ≤ h
      · cases v
        · refine ⟨_, _, false, false, x, y, 0, 0, by omega, by omega, by omega, by omega, ?_, ?_, rfl, rfl, by simp, by simp; omega, by simp⟩ <;>
            (intro i hi; split_ifs <;> first | rfl | omega)
        · refine ⟨_, _, true, true, 0, 0, x, y, by omega, by omega, by omega, by omega, ?_, ?_, rfl, rfl, by simp, by simp, by simp; omega⟩ <;>
            (intro i hi; split_ifs <;> first | rfl | omega)
      · by_cases h2 : h ≤ x
        · cases v
          · refine ⟨_, _, false, false, x - h, y - h, 0, 0, by omega, by omega, by omega, by omega, ?_, ?_, rfl, rfl, by simp, by simp; omega, by simp; omega⟩ <;>
              (intro i hi; split_ifs <;> first | rfl | omega)
          · refine ⟨_, _, true, true, 0, 0, x - h, y - h, by omega, by omega, by omega, by omega, ?_, ?_, rfl, rfl, by simp, by simp, by simp; omega⟩ <;>
              (intro i hi; split_ifs <;> first | rfl | omega)
        · by_cases h3 : y - h ≤ x
          · cases v
            · refine ⟨_, _, true, false, y - h, x, 0, 0, by omega, by omega, by omega, by omega, ?_, ?_, rfl, rfl, by simp, by simp, by simp; omega⟩ <;>
                (intro i hi; split_ifs <;> first | rfl | omega)
            · refine ⟨_, _, true, false, 0, 0, y - h, x, by omega, by omega, by omega, by omega, ?_, ?_, rfl, rfl, by simp, by simp, by simp; omega⟩ <;>
                (intro i hi; split_ifs <;> first | rfl | omega)
          · cases v
            · refine ⟨_, _, true, false, 0, 0, x, y - h, by omega, by omega, by omega, by omega, ?_, ?_, rfl, rfl, by simp, by simp, by simp; omega⟩ <;>
                (intro i hi; split_ifs <;> first | rfl | omega)
            · refine ⟨_, _, true, false, x, y - h, 0, 0, by omega, by omega, by omega, by omega, ?_, ?_, rfl, rfl, by simp, by simp, by simp; omega⟩ <;>
                (intro i hi; split_ifs <;> first | rfl | omega)
    obtain ⟨a, b, u, w, x', y', x'', y'', c1, c2, c3, c4, e1, e2, ea, eb, hab, ha, hc⟩ := key
    rw [tab_congr e1, tab_congr e2]
    have r1 := bitonic_gap n u x' y' c1 (by omega)
    have r2 := bitonic_gap n w x'' y'' c3 (by omega)
    rw [hh, ea] at r1
    rw [hh, eb] at r2
    unfold gap at r1 r2
    rw [r1, r2, desc_append h a b hab ha, hc]

/-- The merge of two descending lists of 50 has as many trues as both, up to 50. -/
theorem topMerge_desc (a b : Nat) : topMerge or and (desc 50 a) (desc 50 b) = desc 50 (a + b) := by
  rw [desc_min 50 a, desc_min 50 b]
  have ha : min a 50 ≤ 50 := Nat.min_le_right _ _
  have hb : min b 50 ≤ 50 := Nat.min_le_right _ _
  have hab : desc 50 (a + b) = desc 50 (min a 50 + min b 50) := desc_congr fun i hi => by omega
  rw [hab]
  generalize min a 50 = a at *
  generalize min b 50 = b at *
  have e : facing or (desc 50 a) (desc 50 b) = gap true (2 ^ 6) (min a (64 - b)) (64 - b) := by
    unfold facing desc
    rw [tab_take _ 14 _ (by omega), tab_take _ 14 _ (by omega), show 50 = 14 + 36 from rfl, tab_drop, tab_drop, tab_reverse, tab_reverse, tab_zip2,
      tab_append, tab_append]
    refine tab_congr (n := 64) fun i hi => ?_
    by_cases h : min a (64 - b) ≤ i ∧ i < 64 - b
    · rw [if_pos h]
      split_ifs with h1 h2
      · simp; omega
      · simp; omega
      · simp; omega
    · rw [if_neg h]
      split_ifs with h1 h2
      · simp; omega
      · simp; omega
      · simp; omega
  unfold topMerge
  rw [e, bitonic_gap 6 true _ _ (by omega) (by omega), desc_take _ _ _ (by decide)]
  exact desc_congr fun i hi => by simp; omega

/-- One level of merging: half as many lists, twice as long, with the same number of trues in all. -/
theorem mergePairs_desc (k : Nat) : ∀ (n : Nat) (cs : List Nat), cs.length = 2 * n → (∀ c ∈ cs, c ≤ 2 ^ k) →
    ∃ ds : List Nat, ds.length = n ∧ (∀ d ∈ ds, d ≤ 2 ^ (k + 1)) ∧ ds.sum = cs.sum
      ∧ mergePairs or and k (cs.map (desc (2 ^ k))) = ds.map (desc (2 ^ (k + 1)))
  | 0, [], _, _ => ⟨[], rfl, by simp, rfl, rfl⟩
  | 0, _ :: _, h, _ => by simp at h
  | _ + 1, [], h, _ => by simp at h
  | _ + 1, [_], h, _ => by simp at h; omega
  | n + 1, a :: b :: cs, h, hc => by
    obtain ⟨ds, h1, h2, h3, h4⟩ := mergePairs_desc k n cs (by simp at h; omega) fun c hm => hc c (by simp [hm])
    have ha := hc a (by simp)
    have hb := hc b (by simp)
    refine ⟨(a + b) :: ds, by simp [h1], ?_, by simp [h3, Nat.add_assoc], ?_⟩
    · intro d hd
      rcases List.mem_cons.mp hd with rfl | hd
      · rw [Nat.pow_succ]; omega
      · exact h2 d hd
    · show oddEven or and k (desc (2 ^ k) a) (desc (2 ^ k) b) :: mergePairs or and k (cs.map (desc (2 ^ k))) = _
      rw [h4, oddEven_desc k a b ha hb]
      rfl

/-- Lists of one are descending. -/
theorem singles_desc : ∀ l : List Bool, singles l = (l.map Bool.toNat).map (desc (2 ^ 0))
  | [] => rfl
  | a :: l => by
    show [a] :: singles l = desc (2 ^ 0) a.toNat :: _
    rw [singles_desc l]
    cases a <;> rfl

/-- The sum of truth values is the number of trues. -/
theorem sum_toNat : ∀ l : List Bool, (l.map Bool.toNat).sum = l.count true
  | [] => rfl
  | a :: l => by
    rw [List.map_cons, List.sum_cons, sum_toNat l]
    cases a <;> simp [Nat.add_comm]

/-- The sort of 64 truth values: as many trues as there are, and they come first. -/
theorem sort64_desc (l : List Bool) (hl : l.length = 64) : sort64 or and l = desc 64 (l.count true) := by
  unfold sort64
  rw [singles_desc, ← sum_toNat]
  obtain ⟨d1, l1, b1, s1, e1⟩ := mergePairs_desc 0 32 (l.map Bool.toNat) (by simp [hl]) (by
    intro c hc
    obtain ⟨b, _, rfl⟩ := List.mem_map.mp hc
    cases b <;> simp)
  obtain ⟨d2, l2, b2, s2, e2⟩ := mergePairs_desc 1 16 d1 l1 b1
  obtain ⟨d3, l3, b3, s3, e3⟩ := mergePairs_desc 2 8 d2 l2 b2
  obtain ⟨d4, l4, b4, s4, e4⟩ := mergePairs_desc 3 4 d3 l3 b3
  obtain ⟨d5, l5, b5, s5, e5⟩ := mergePairs_desc 4 2 d4 l4 b4
  obtain ⟨d6, l6, b6, s6, e6⟩ := mergePairs_desc 5 1 d5 l5 b5
  rw [e1, e2, e3, e4, e5, e6, ← s1, ← s2, ← s3, ← s4, ← s5, ← s6]
  obtain ⟨d, rfl⟩ := List.length_eq_one_iff.mp l6
  simp [first]

end Net
-- ==== Proof.Keep.lean ====
/-
  What the kept lists hold, over the extended reals, told by counting: the `i`-th place of a list is at least `t` exactly
  when more than `i` of the values seen so far are at least `t`. Selecting from a score buffer adds that buffer's counts.
-/
module

public import proofs.«01_k».proof.Proof.Vals
public import proofs.«01_k».proof.Proof.NetFacts
public import Idealize.ShloMosaic.PureOps.Ideal

@[expose] public section

set_option maxRecDepth 16384

noncomputable section

namespace Cert.KernelIdeal

open Idealize.ShloMosaic Idealize.ShloMosaic.TcCoe Idealize.SL.Sem
open VecWindow (window put)
open Facts₀ Facts
open Net (tab desc)

/-- One if the value reaches the threshold, else zero. -/
def hit (t v : EReal) : ℕ := if t ≤ v then 1 else 0

/-- Whether a block's entry at `j` reaches the threshold `t`. -/
def atLeast (j : S8x128.Idx) (t : EReal) (v : FVec Ideal S8x128 .f32) : Bool := decide (t ≤ (v j : EReal))

/-- The greater of two is at least `t` when either is. -/
theorem atLeast_max (j : S8x128.Idx) (t : EReal) (a b : FVec Ideal S8x128 .f32) : atLeast j t (vmx a b) = or (atLeast j t a) (atLeast j t b) := by
  unfold atLeast
  rw [← Bool.decide_or]
  exact decide_eq_decide.mpr (le_max_iff (α := EReal))

/-- The lesser of two is at least `t` when both are. -/
theorem atLeast_min (j : S8x128.Idx) (t : EReal) (a b : FVec Ideal S8x128 .f32) : atLeast j t (vmn a b) = and (atLeast j t a) (atLeast j t b) := by
  unfold atLeast
  rw [← Bool.decide_and]
  exact decide_eq_decide.mpr (le_min_iff (α := EReal))

/-- The merge of two lists of which `a` and `b` entries reach the threshold: `a + b` do. -/
theorem topMerge_atLeast (A B : List (FVec Ideal S8x128 .f32)) (j : S8x128.Idx) (t : EReal) (a b : ℕ)
    (hA : A.map (atLeast j t) = desc 50 a) (hB : B.map (atLeast j t) = desc 50 b) :
    (Net.topMerge vmx vmn A B).map (atLeast j t) = desc 50 (a + b) := by
  rw [Net.topMerge_map vmx vmn or and (atLeast j t) (atLeast_max j t) (atLeast_min j t), hA, hB, Net.topMerge_desc]

/-- The sort of 64 blocks: as many entries reach the threshold as did before, and they come first. -/
theorem sort64_atLeast (A : List (FVec Ideal S8x128 .f32)) (j : S8x128.Idx) (t : EReal) (hl : A.length = 64) :
    (Net.sort64 vmx vmn A).map (atLeast j t) = desc 64 ((A.map (atLeast j t)).count true) := by
  rw [Net.sort64_map vmx vmn or and (atLeast j t) (atLeast_max j t) (atLeast_min j t), Net.sort64_desc _ (by rw [List.length_map, hl])]

/-- The trues of a list are counted by a sum. -/
theorem count_tab (n : ℕ) (f : ℕ → Bool) : (tab n f).count true = ∑ k ∈ Finset.range n, (f k).toNat := by
  induction n with
  | zero => rfl
  | succ n ih =>
    rw [Finset.sum_range_succ, ← ih]
    unfold Net.tab
    rw [List.range_succ, List.map_append, List.count_append]
    cases h : f n <;> simp [h]

/-- A score buffer's entry by row number. -/
def atS (x : Vec Ideal S1024x256 .f32) (a : ℕ) (l : Fin 256) : EReal := x (ix2 ⟨a % 1024, Nat.mod_lt _ (by decide)⟩ l : S1024x256.Idx)

/-- The kept lists at `T` told by the counts `c`: the `i`-th place reaches `t` exactly when more than `i` are counted. -/
def Keeps (T : Vec Ideal S50x8x256 .f32) (c : Fin 8 → Fin 256 → EReal → ℕ) : Prop :=
  ∀ (i : Fin 50) (s : Fin 8) (l : Fin 256) (t : EReal), t ≤ (T (ix3 i s l : S50x8x256.Idx) : EReal) ↔ i.val < c s l t

/-- A place of the kept lists read as a register. -/
theorem castT_apply (y : FVec Ideal S1x8x128 .f32) (s : Fin 8) (l : Fin 128) :
    (shapeCast S8x128 y shapeCasts_S1x8x128_S8x128) (ix2 s l : S8x128.Idx) = y (ix3 0 s l : S1x8x128.Idx) := by
  pointwise

/-- One place of a kept list, read at an index. -/
theorem winT_head (x : Vec Ideal S50x8x256 .f32) (q i : ℕ) (hq : q + 128 ≤ 256) (hi : i < 50) (s : Fin 8) (l : Fin 128) :
    (shapeCast S8x128 (window x ![i, 0, q] S1x8x128.size (inbT i q hi hq) : Vec Ideal S1x8x128 .f32) shapeCasts_S1x8x128_S8x128) (ix2 s l : S8x128.Idx)
      = x (ix3 ⟨i, hi⟩ s ⟨q + l.val, by omega⟩ : S50x8x256.Idx) := by
  refine (castT_apply _ s l).trans ?_
  unfold window
  refine congrArg x (funext fun a => ?_)
  fin_cases a <;> apply Fin.ext
  · show i + 1 * 0 = i
    omega
  · show 0 + 1 * s.val = s.val
    omega
  · show q + 1 * l.val = q + l.val
    omega

/-- Which places of the kept lists are at least `t`: the first ones, as many as the count says. -/
theorem winT_map (x : Vec Ideal S50x8x256 .f32) (c : Fin 8 → Fin 256 → EReal → ℕ) (hx : Keeps x c) (q : ℕ) (hq : q + 128 ≤ 256)
    (s : Fin 8) (l : Fin 128) (t : EReal) : ∀ (n i : ℕ) (h : i + n ≤ 50),
    (winT x q hq n i h).map (atLeast (ix2 s l) t) = tab n fun k => decide (i + k < c s ⟨q + l.val, by omega⟩ t)
  | 0, _, _ => rfl
  | n + 1, i, h => by
    unfold winT
    rw [List.map_cons, winT_map x c hx q hq s l t n (i + 1) (by omega), Net.tab_succ]
    refine congrArg₂ List.cons ?_ (Net.tab_congr fun k _ => by rw [Nat.add_right_comm, Nat.add_assoc])
    unfold atLeast
    rw [winT_head x q i hq (by omega) s l]
    exact decide_eq_decide.mpr (hx ⟨i, by omega⟩ s _ t)

/-- Which registers loaded from a score buffer are at least `t`, told by the buffer's rows. -/
theorem winS_map (x : Vec Ideal S1024x256 .f32) (q : ℕ) (hq : q + 128 ≤ 256) (s : Fin 8) (l : Fin 128) (t : EReal) : ∀ (n r : ℕ) (h : r + 8 * n ≤ 1024),
    (winS x q hq n r h).map (atLeast (ix2 s l) t) = tab n fun k => decide (t ≤ atS x (r + 8 * k + s.val) ⟨q + l.val, by omega⟩)
  | 0, _, _ => rfl
  | n + 1, r, h => by
    unfold winS
    rw [List.map_cons, winS_map x q hq s l t n (r + 8) (by omega), Net.tab_succ]
    refine congrArg₂ List.cons ?_ (Net.tab_congr fun k _ => by rw [show r + 8 + 8 * k = r + 8 * (k + 1) by omega])
    unfold atLeast atS window
    refine decide_eq_decide.mpr (iff_of_eq (congrArg (t ≤ ·) (congrArg x (funext fun a => ?_))))
    fin_cases a <;> apply Fin.ext
    · show r + 1 * s.val = (r + 8 * 0 + s.val) % 1024
      omega
    · show q + 1 * l.val = q + l.val
      omega

/-- The number of registers loaded is the one asked for. -/
theorem winS_length (x : Vec Ideal S1024x256 .f32) (q : ℕ) (hq : q + 128 ≤ 256) : ∀ (n r : ℕ) (h : r + 8 * n ≤ 1024), (winS x q hq n r h).length = n
  | 0, _, _ => rfl
  | n + 1, r, h => congrArg (· + 1) (winS_length x q hq n (r + 8) (by omega))

/-- A write of a rectangle of a rank-3 buffer, read at an index. -/
theorem put3_apply {α : Type} {n0 n1 n2 k0 k1 k2 : ℕ} (x : (⟨3, ![n0, n1, n2]⟩ : Shape).Idx → α) (r p q : ℕ)
    (w : (⟨3, ![k0, k1, k2]⟩ : Shape).Idx → α) (a : Fin n0) (b : Fin n1) (d : Fin n2) :
    put x ![r, p, q] ![k0, k1, k2] w (ix3 a b d) =
      if h : (r ≤ a.val ∧ a.val < r + k0) ∧ (p ≤ b.val ∧ b.val < p + k1) ∧ (q ≤ d.val ∧ d.val < q + k2) then
        w (ix3 ⟨a.val - r, by omega⟩ ⟨b.val - p, by omega⟩ ⟨d.val - q, by omega⟩) else x (ix3 a b d) := by
  unfold VecWindow.put
  by_cases h : (r ≤ a.val ∧ a.val < r + k0) ∧ (p ≤ b.val ∧ b.val < p + k1) ∧ (q ≤ d.val ∧ d.val < q + k2)
  · rw [dif_pos h, dif_pos (fun i => by fin_cases i; exacts [h.1, h.2.1, h.2.2])]
    refine congrArg w (funext fun i => ?_)
    fin_cases i <;> rfl
  · rw [dif_neg h, dif_neg (fun h' => h ⟨h' 0, h' 1, h' 2⟩)]

/-- A register read as a place of the kept lists. -/
theorem cast_apply (v : FVec Ideal S8x128 .f32) (z : Fin 1) (s : Fin 8) (l : Fin 128) :
    (shapeCast S1x8x128 v shapeCasts_S8x128_S1x8x128) (ix3 z s l : S1x8x128.Idx) = v (ix2 s l : S8x128.Idx) := by
  pointwise

/-- The kept lists after those of 128 columns have been overwritten, read at an index. -/
theorem putT_apply (q : ℕ) (hq : q + 128 ≤ 256) (a : Fin 50) (s : Fin 8) (l : Fin 256) : ∀ (vs : List (FVec Ideal S8x128 .f32)) (i : ℕ) (x : Vec Ideal S50x8x256 .f32),
    i + vs.length ≤ 50 → putT q vs i x (ix3 a s l : S50x8x256.Idx) =
      if h : (i ≤ a.val ∧ a.val < i + vs.length) ∧ (q ≤ l.val ∧ l.val < q + 128) then
        vs[a.val - i] (ix2 s ⟨l.val - q, by omega⟩ : S8x128.Idx) else x (ix3 a s l : S50x8x256.Idx)
  | [], i, x, _ => by
    unfold putT
    rw [dif_neg (fun h => by have := h.1; simp at this; omega)]
  | v :: vs, i, x, h => by
    have hl : (v :: vs).length = vs.length + 1 := rfl
    rw [hl] at h
    unfold putT
    rw [if_pos (by omega), putT_apply q hq a s l vs (i + 1) _ (by omega)]
    have hs := s.isLt
    by_cases h1 : (i + 1 ≤ a.val ∧ a.val < i + 1 + vs.length) ∧ (q ≤ l.val ∧ l.val < q + 128)
    · rw [dif_pos h1, dif_pos ⟨⟨by omega, by omega⟩, h1.2⟩]
      have e : ∀ (n : ℕ) (hn : n < (v :: vs).length) (hm : a.val - (i + 1) < vs.length), n = a.val - (i + 1) + 1 → (v :: vs)[n] = vs[a.val - (i + 1)] := by
        rintro _ _ _ rfl; rfl
      rw [e _ _ (by omega) (by omega)]
    · rw [dif_neg h1]
      refine (put3_apply x i 0 q _ a s l).trans ?_
      by_cases h2 : a.val = i ∧ (q ≤ l.val ∧ l.val < q + 128)
      · rw [dif_pos ⟨⟨by omega, by omega⟩, ⟨by omega, by omega⟩, h2.2⟩, dif_pos ⟨⟨by omega, by omega⟩, h2.2⟩]
        have e : ∀ (n : ℕ) (hn : n < (v :: vs).length), n = 0 → (v :: vs)[n] = v := by
          rintro _ _ rfl; rfl
        rw [e _ _ (by omega)]
        exact cast_apply v _ s _
      · rw [dif_neg (fun h' => h2 ⟨by omega, h'.2.2⟩), dif_neg (fun h' => h1 ⟨⟨by have := h'.1; by_contra; exact h2 ⟨by omega, h'.2⟩, by omega⟩, h'.2⟩)]

/-- One block of 512 rows merged in adds its counts to the columns it is for. -/
theorem block_keeps (x : Vec Ideal S1024x256 .f32) (q : ℕ) (hq : q + 128 ≤ 256) (r : ℕ) (hr : r + 512 ≤ 1024) (T : Vec Ideal S50x8x256 .f32)
    (c : Fin 8 → Fin 256 → EReal → ℕ) (hT : Keeps T c) :
    Keeps (blockV x q hq r hr T) fun s l t => c s l t + if q ≤ l.val ∧ l.val < q + 128 then ∑ k ∈ Finset.range 64, hit t (atS x (r + 8 * k + s.val) l) else 0 := by
  intro i s l t
  have hm : ∀ (s : Fin 8) (l' : Fin 128) (t : EReal), (Net.topMerge vmx vmn ((Net.sort64 vmx vmn (winS x q hq 64 r hr)).take 50) (winT T q hq 50 0 (by omega))).map (atLeast (ix2 s l') t)
      = desc 50 ((∑ k ∈ Finset.range 64, hit t (atS x (r + 8 * k + s.val) ⟨q + l'.val, by omega⟩)) + c s ⟨q + l'.val, by omega⟩ t) := by
    intro s l' t
    refine topMerge_atLeast _ _ _ _ _ _ ?_ ?_
    · rw [List.map_take, sort64_atLeast _ _ _ (winS_length x q hq 64 r hr), Net.desc_take _ _ _ (by decide), winS_map, count_tab]
      refine congrArg (desc 50) (Finset.sum_congr rfl fun k _ => ?_)
      unfold hit
      by_cases h : t ≤ atS x (r + 8 * k + s.val) ⟨q + l'.val, by omega⟩ <;> simp [h]
    · rw [winT_map T c hT]
      exact Net.tab_congr fun k _ => by rw [Nat.zero_add]
  have hlen : (Net.topMerge vmx vmn ((Net.sort64 vmx vmn (winS x q hq 64 r hr)).take 50) (winT T q hq 50 0 (by omega))).length = 50 := by
    have := congrArg List.length (hm 0 0 0)
    rwa [List.length_map, show (desc 50 _).length = 50 from Net.tab_length _ _] at this
  unfold blockV
  rw [putT_apply q hq i s l _ 0 T (by rw [hlen])]
  by_cases h : q ≤ l.val ∧ l.val < q + 128
  · rw [dif_pos ⟨⟨by omega, by rw [hlen]; omega⟩, h⟩]
    have e := hm s ⟨l.val - q, by omega⟩ t
    have el : (⟨q + (l.val - q), by omega⟩ : Fin 256) = l := Fin.ext (by show q + (l.val - q) = l.val; omega)
    simp only [el] at e
    have hg : ∀ (A : List (FVec Ideal S8x128 .f32)) (n : ℕ) (hA : i.val - 0 < A.length), A.map (atLeast (ix2 s ⟨l.val - q, by omega⟩) t) = desc 50 n →
        (t ≤ (A[i.val - 0] (ix2 s ⟨l.val - q, by omega⟩ : S8x128.Idx) : EReal) ↔ i.val < n) := by
      intro A n hA hAn
      have h1 : atLeast (ix2 s ⟨l.val - q, by omega⟩) t A[i.val - 0] = decide (i.val < n) := by
        have h2 : (A.map (atLeast (ix2 s ⟨l.val - q, by omega⟩) t))[i.val - 0]'(by rw [List.length_map]; exact hA) = decide (i.val < n) := by
          simp only [hAn]
          exact Net.desc_getElem 50 n i.val (by rw [show (desc 50 n).length = 50 from Net.tab_length _ _]; exact i.isLt)
        rw [← h2, List.getElem_map]
      exact decide_eq_decide.mp h1
    have := hg _ _ (by rw [hlen]; omega) e
    rw [this]
    simp only [h, and_self, if_true]
    rw [Nat.add_comm]
  · rw [dif_neg (fun h' => h h'.2)]
    simp only [h, if_false, Nat.add_zero]
    exact hT i s l t

/-- How many of a score buffer's rows that go to sublane `s` reach the threshold. -/
def cntS (x : Vec Ideal S1024x256 .f32) (s : Fin 8) (l : Fin 256) (t : EReal) : ℕ := ∑ k ∈ Finset.range 128, hit t (atS x (8 * k + s.val) l)

/-- Selecting from a score buffer adds its counts. -/
theorem select_keeps (x : Vec Ideal S1024x256 .f32) (T : Vec Ideal S50x8x256 .f32) (c : Fin 8 → Fin 256 → EReal → ℕ) (hT : Keeps T c) :
    Keeps (selectV x T) fun s l t => c s l t + cntS x s l t := by
  have h := block_keeps x 128 (by omega) 512 (by omega) _ _ (block_keeps x 128 (by omega) 0 (by omega) _ _
    (block_keeps x 0 (by omega) 512 (by omega) _ _ (block_keeps x 0 (by omega) 0 (by omega) T c hT)))
  intro i s l t
  refine (h i s l t).trans (iff_of_eq (congrArg (i.val < ·) ?_))
  have e : cntS x s l t = (∑ k ∈ Finset.range 64, hit t (atS x (0 + 8 * k + s.val) l)) + ∑ k ∈ Finset.range 64, hit t (atS x (512 + 8 * k + s.val) l) := by
    unfold cntS
    rw [show 128 = 64 + 64 from rfl, Finset.sum_range_add]
    refine congrArg₂ _ (Finset.sum_congr rfl fun k _ => by rw [Nat.zero_add]) (Finset.sum_congr rfl fun k _ => by rw [Nat.mul_add])
  have hl := l.isLt
  dsimp only
  rw [e]
  by_cases h1 : l.val < 128
  · rw [if_pos (by omega), if_pos (by omega), if_neg (by omega), if_neg (by omega)]
    omega
  · rw [if_neg (by omega), if_neg (by omega), if_pos (by omega), if_pos (by omega)]
    omega

end Cert.KernelIdeal

end
-- ==== Proof.Ranks.lean ====
/-
  What the kernel's result holds, over the extended reals: the `i`-th entry of a query's row is at least `t` exactly when
  more than `i` of the query's 90112 scores are at least `t`.
-/
module

public import proofs.«01_k».proof.Proof.Keep
public import proofs.«01_k».proof.Proof.Run
public import Idealize.ShloMosaic.Lib.KernelVsHost
public import Idealize.ShloMosaic.Lib.Pipeline.Value

@[expose] public section

set_option maxRecDepth 16384

noncomputable section

namespace Cert.KernelIdeal

open Idealize.ShloMosaic Idealize.ShloMosaic.TcCoe Idealize.SL.Sem
open VecWindow (window put)
open Facts₀ Facts
open Net (tab desc)
open Gen

/-! ## Reading the result off the kept lists -/

/-- Row `a` of the block of results is lane `a` of every list place's top sublane. -/
theorem handRows_apply (l : List (FVec Ideal S8x128 .f32)) (a : Fin 128) (b : Fin 50) :
    handRows l (ix2 a b : S128x50.Idx) = (l.getD b.val (fun _ => Scalar.ofBits .f32 0#32)) (ix2 0 a : S8x128.Idx) := by
  unfold handRows
  have hb := b.isLt
  refine Eq.trans (b := concatenate S128x128 0
    (((List.range 50).map fun k => (⟨S1x128, topRow (l.getD k (fun _ => Scalar.ofBits .f32 0#32))⟩ : (s : Shape) × (s.Idx → Ideal .f32))) ++
      [⟨S78x128, broadcast S78x128 (Scalar.ofBits .f32 0x00000000#32)⟩])
    (concatRows (fun k => topRow (l.getD k (fun _ => Scalar.ofBits .f32 0#32))) _) (ix2 ⟨b.val, by omega⟩ a : S128x128.Idx)) ?_ ?_
  · generalize concatenate S128x128 0 _ _ = y
    pointwise
  · refine (concatenate_apply_piece (t := S128x128) 0 _ _ _ b.val (by rw [List.length_append, List.length_map, List.length_range]; omega) S1x128
      (topRow (l.getD b.val (fun _ => Scalar.ofBits .f32 0#32))) ?_ rfl b.val ?_ (ix2 0 a : S1x128.Idx) ?_ ?_).trans ?_
    · rw [List.getElem_append_left (by simp), List.getElem_map, List.getElem_range]
    · rw [List.take_append_of_le_length (by rw [List.length_map, List.length_range]; omega), ← List.map_take, List.take_range, Nat.min_eq_left (by omega), List.map_map, List.map_map]
      refine Eq.trans (b := ((List.range b.val).map fun _ => 1).sum) ?_ (by simp)
      rfl
    · intro d hd
      fin_cases d
      · exact absurd rfl hd
      · rfl
    · rfl
    · unfold topRow
      pointwise

/-- Where a rotation along the sublanes takes sublane `s` from. -/
def from8 (n : ℕ) (s : Fin 8) : Fin 8 := ⟨(s.val + 8 - n % 8) % 8, Nat.mod_lt _ (by decide)⟩

/-- A rotated register reads the register at the sublane that many places before. -/
theorem rot_apply (n : BitVec 32) (v : FVec Ideal S8x128 .f32) (s : Fin 8) (l : Fin 128) :
    rot n v (ix2 s l : S8x128.Idx) = v (ix2 (from8 n.toNat s) l : S8x128.Idx) := by
  unfold rot
  refine dynamicRotate_apply 0 n v _ _ _ fun b => ?_
  fin_cases b <;> rfl

/-- A list merged with its own rotation: the counts of the two sublanes added. -/
theorem foldRot_atLeast (n : BitVec 32) (L : List (FVec Ideal S8x128 .f32)) (l : Fin 128) (t : EReal) (c : Fin 8 → ℕ)
    (hL : ∀ s, L.map (atLeast (ix2 s l) t) = desc 50 (c s)) (s : Fin 8) :
    (foldRot n L).map (atLeast (ix2 s l) t) = desc 50 (c s + c (from8 n.toNat s)) := by
  unfold foldRot
  refine topMerge_atLeast _ _ _ _ _ _ (hL s) ?_
  rw [List.map_map, ← hL]
  refine List.map_congr_left fun v _ => ?_
  show atLeast _ t (rot n v) = _
  unfold atLeast
  rw [rot_apply]

/-- The entry of the result is at least `t` exactly when more than its place are counted over all sublanes. -/
theorem finish_apply (T : Vec Ideal S50x8x256 .f32) (c : Fin 8 → Fin 256 → EReal → ℕ) (hT : Keeps T c) (q : ℕ) (hq : q + 128 ≤ 256) (l : Fin 128) (i : Fin 50) (t : EReal) :
    t ≤ (handRows (foldRot 1#32 (foldRot 2#32 (foldRot 4#32 (winT T q hq 50 0 (by omega))))) (ix2 l i : S128x50.Idx) : EReal)
      ↔ i.val < ∑ s : Fin 8, c s ⟨q + l.val, by omega⟩ t := by
  have h0 : ∀ s : Fin 8, (winT T q hq 50 0 (by omega)).map (atLeast (ix2 s l) t) = desc 50 (c s ⟨q + l.val, by omega⟩ t) := by
    intro s
    rw [winT_map T c hT]
    exact Net.tab_congr fun k _ => by rw [Nat.zero_add]
  have h3 := foldRot_atLeast 1#32 _ l t _ (foldRot_atLeast 2#32 _ l t _ (foldRot_atLeast 4#32 _ l t _ h0)) 0
  rw [handRows_apply]
  generalize foldRot 1#32 (foldRot 2#32 (foldRot 4#32 (winT T q hq 50 0 (by omega)))) = L at h3
  have hlen : L.length = 50 := by
    have := congrArg List.length h3
    rwa [List.length_map, show (desc 50 _).length = 50 from Net.tab_length _ _] at this
  rw [List.getD_eq_getElem?_getD, List.getElem?_eq_getElem (by rw [hlen]; exact i.isLt), Option.getD_some]
  have hs : ∑ s : Fin 8, c s ⟨q + l.val, by omega⟩ t =
      c 0 ⟨q + l.val, by omega⟩ t + c (from8 (4#32).toNat 0) ⟨q + l.val, by omega⟩ t
        + (c (from8 (2#32).toNat 0) ⟨q + l.val, by omega⟩ t + c (from8 (4#32).toNat (from8 (2#32).toNat 0)) ⟨q + l.val, by omega⟩ t)
        + (c (from8 (1#32).toNat 0) ⟨q + l.val, by omega⟩ t + c (from8 (4#32).toNat (from8 (1#32).toNat 0)) ⟨q + l.val, by omega⟩ t
        + (c (from8 (2#32).toNat (from8 (1#32).toNat 0)) ⟨q + l.val, by omega⟩ t + c (from8 (4#32).toNat (from8 (2#32).toNat (from8 (1#32).toNat 0))) ⟨q + l.val, by omega⟩ t)) := by
    rw [show from8 (4#32).toNat 0 = 4 by decide, show from8 (2#32).toNat 0 = 6 by decide, show from8 (1#32).toNat 0 = 7 by decide,
      show from8 (4#32).toNat 6 = 2 by decide, show from8 (4#32).toNat 7 = 3 by decide, show from8 (2#32).toNat 7 = 5 by decide,
      show from8 (4#32).toNat 5 = 1 by decide, Fin.sum_univ_eight]
    omega
  rw [hs]
  have h1 := List.getElem_of_eq h3 (i := i.val) (by rw [List.length_map, hlen]; exact i.isLt)
  rw [List.getElem_map, Net.desc_getElem] at h1
  exact decide_eq_decide.mp h1

/-- The result at a query and a place is at least `t` exactly when the eight sublanes together have more than that many. -/
theorem outV_apply (T : Vec Ideal S50x8x256 .f32) (c : Fin 8 → Fin 256 → EReal → ℕ) (hT : Keeps T c) (l : Fin 256) (i : Fin 50) (t : EReal) :
    t ≤ (outV T (ix2 l i : S256x50.Idx) : EReal) ↔ i.val < ∑ s : Fin 8, c s l t := by
  have hl := l.isLt
  have hi := i.isLt
  have key : ∀ (q : ℕ) (hq : q + 128 ≤ 256) (h : q ≤ l.val ∧ l.val < q + 128),
      t ≤ (handRows (foldRot 1#32 (foldRot 2#32 (foldRot 4#32 (winT T q hq 50 0 (by omega))))) (ix2 ⟨l.val - q, by omega⟩ ⟨i.val - 0, by omega⟩ : S128x50.Idx) : EReal)
      ↔ i.val < ∑ s : Fin 8, c s l t := by
    intro q hq h
    have := finish_apply T c hT q hq ⟨l.val - q, by omega⟩ i t
    have el : (⟨q + (l.val - q), by omega⟩ : Fin 256) = l := Fin.ext (by show q + (l.val - q) = l.val; omega)
    simp only [el] at this
    exact this
  unfold outV finishV
  by_cases h : 128 ≤ l.val
  · refine Eq.mpr (congrArg (fun z : EReal => t ≤ z ↔ i.val < ∑ s : Fin 8, c s l t) ((put2_apply _ 128 0 _ l i).trans (dif_pos ⟨⟨h, by omega⟩, by omega, by omega⟩))) ?_
    exact key 128 _ ⟨h, by omega⟩
  · refine Eq.mpr (congrArg (fun z : EReal => t ≤ z ↔ i.val < ∑ s : Fin 8, c s l t) (((put2_apply _ 128 0 _ l i).trans (dif_neg (by omega))).trans
      ((put2_apply _ 0 0 _ l i).trans (dif_pos ⟨⟨by omega, by omega⟩, by omega, by omega⟩)))) ?_
    exact key 0 _ ⟨by omega, by omega⟩

/-! ## What is carried from point to point -/

/-- The word that the buffers start with means minus infinity. -/
theorem neg_inf : (Scalar.ofBits .f32 0xFF800000#32 : Ideal .f32) = (⊥ : EReal) := by
  show Ideal.ofBits .f32 0xFF800000#32 = ⊥
  simp [Ideal.ofBits, Ideal.ieee]

/-- The first kept lists: fifty times minus infinity. -/
theorem initT_keeps : Keeps initT fun _ _ t => if t = ⊥ then 50 else 0 := by
  intro i s l t
  have e : (initT (F := Ideal) (ix3 i s l : S50x8x256.Idx) : EReal) = ⊥ := by
    rw [← neg_inf]
    pointwise [initT]
  rw [e, le_bot_iff]
  have := i.isLt
  by_cases h : t = ⊥ <;> simp [h]

/-- The score buffer set to minus infinity: its 128 values of a sublane and query are at least minus infinity, and no other threshold. -/
theorem initS_cnt (s : Fin 8) (l : Fin 256) (t : EReal) : cntS initS s l t = if t = ⊥ then 128 else 0 := by
  have e : ∀ a, atS initS a l = ⊥ := by
    intro a
    unfold atS
    rw [← neg_inf]
    pointwise [initS]
  unfold cntS hit
  simp only [e, le_bot_iff]
  by_cases h : t = ⊥ <;> simp [h]

variable (m : (ℓ : Loc nD τ sig) → Buf (Elt Ideal) ℓ) (c : Dev nD) (sc : ℕ → Fin 256 → EReal)

/-- The scores of each point's block, low rows and high rows, are the scores `sc` of its 2048 rows. -/
structure Scores : Prop where
  low : ∀ (t : Fin cfg0.N) (a : ℕ), a < 1024 → ∀ l, atS (lowS (blkX m c t) (blkD m c t) (blkY m c t)) a l = sc (2048 * t.val + a) l
  high : ∀ (t : Fin cfg0.N) (a : ℕ), a < 1024 → ∀ l, atS (highS (blkX m c t) (blkD m c t) (blkY m c t)) a l = sc (2048 * t.val + 1024 + a) l

variable {m c sc}

/-- The counts of a score buffer that holds 1024 scores in a row. -/
theorem cnt_of (S : Vec Ideal S1024x256 .f32) (b : ℕ) (h : ∀ a < 1024, ∀ l, atS S a l = sc (8 * b + a) l) (s : Fin 8) (l : Fin 256) (t : EReal) :
    cntS S s l t = ∑ j ∈ Finset.range 128, hit t (sc (8 * (b + j) + s.val) l) := by
  unfold cntS
  refine Finset.sum_congr rfl fun j hj => ?_
  have := Finset.mem_range.mp hj
  have hs := s.isLt
  rw [h _ (by omega), show 8 * b + (8 * j + s.val) = 8 * (b + j) + s.val by omega]

/-- What is kept and what is still to be selected from together count the scores of the first `256 n` rows of each sublane. -/
def Counted (sc : ℕ → Fin 256 → EReal) (n : ℕ) (T : Vec Ideal S50x8x256 .f32) (S : Vec Ideal S1024x256 .f32) : Prop :=
  ∃ k, Keeps T k ∧ ∀ s l t, k s l t + cntS S s l t = (if t = ⊥ then 178 else 0) + ∑ j ∈ Finset.range (256 * n), hit t (sc (8 * j + s.val) l)

/-- The counts hold before the first step, -/
theorem counted_init : Counted sc 0 initT initS := by
  refine ⟨_, initT_keeps, fun s l t => ?_⟩
  rw [initS_cnt]
  by_cases ht : t = ⊥ <;> simp [ht]

/-- a step carries them on by 2048 rows, -/
theorem counted_step (n : ℕ) (T : Vec Ideal S50x8x256 .f32) (S lo hi : Vec Ideal S1024x256 .f32) (h : Counted sc n T S)
    (hlo : ∀ a < 1024, ∀ l, atS lo a l = sc (2048 * n + a) l) (hhi : ∀ a < 1024, ∀ l, atS hi a l = sc (2048 * n + 1024 + a) l) :
    Counted sc (n + 1) (selectV lo (selectV S T)) hi := by
  obtain ⟨k, hk, hc⟩ := h
  refine ⟨_, select_keeps _ _ _ (select_keeps _ _ _ hk), fun s l t => ?_⟩
  rw [hc, cnt_of (sc := sc) lo (256 * n) (fun a ha l => by rw [hlo a ha l]; congr 1; omega),
    cnt_of (sc := sc) hi (256 * n + 128) (fun a ha l => by rw [hhi a ha l]; congr 1; omega),
    show 256 * (n + 1) = 256 * n + 128 + 128 by omega, Finset.sum_range_add _ (256 * n + 128), Finset.sum_range_add _ (256 * n)]
  omega

/-- and the selection that ends the last step takes in the rest. -/
theorem counted_last (n : ℕ) (T : Vec Ideal S50x8x256 .f32) (S : Vec Ideal S1024x256 .f32) (h : Counted sc n T S) :
    ∃ k, Keeps (selectV S T) k ∧
      ∀ s l t, k s l t = (if t = ⊥ then 178 else 0) + ∑ j ∈ Finset.range (256 * n), hit t (sc (8 * j + s.val) l) := by
  obtain ⟨k, hk, hc⟩ := h
  exact ⟨_, select_keeps _ _ _ hk, hc⟩

/-- What is carried to the first point, -/
theorem carried_zero (h : 0 ≤ cfg0.N) : carried m c 0 h = (initT, initS) := rfl

/-- and from each point to the next. -/
theorem carried_succ (n : ℕ) (h : n + 1 ≤ cfg0.N) : carried m c (n + 1) h =
    (nextT (blkX m c ⟨n, h⟩) (blkD m c ⟨n, h⟩) (blkY m c ⟨n, h⟩) (carried m c n (Nat.le_of_succ_le h)).1 (carried m c n (Nat.le_of_succ_le h)).2,
      highS (blkX m c ⟨n, h⟩) (blkD m c ⟨n, h⟩) (blkY m c ⟨n, h⟩)) := rfl

/-- Before each point: what is kept and what is still to be selected from together count the rows gone by. -/
theorem carried_counted (h : Scores m c sc) (n : ℕ) (hn : n ≤ cfg0.N) : Counted sc n (carried m c n hn).1 (carried m c n hn).2 := by
  induction n with
  | zero =>
    rw [carried_zero]
    exact counted_init
  | succ n ih =>
    rw [carried_succ]
    have h1 := ih (Nat.le_of_succ_le hn)
    generalize carried m c n (Nat.le_of_succ_le hn) = p at h1 ⊢
    have h2 := h.low ⟨n, hn⟩
    have h3 := h.high ⟨n, hn⟩
    dsimp only at h2 h3 ⊢
    unfold nextT
    generalize lowS (blkX m c ⟨n, hn⟩) (blkD m c ⟨n, hn⟩) (blkY m c ⟨n, hn⟩) = lo at h2 ⊢
    generalize highS (blkX m c ⟨n, hn⟩) (blkD m c ⟨n, hn⟩) (blkY m c ⟨n, hn⟩) = hi at h3 ⊢
    exact counted_step n p.1 p.2 lo hi h1 h2 h3

/-- After the last selection: the kept lists count all rows. -/
theorem last_keeps (h : Scores m c sc) (t : Fin cfg0.N) : ∃ k, Keeps (lastAt m c t) k ∧
    ∀ s l u, k s l u = (if u = ⊥ then 178 else 0) + ∑ j ∈ Finset.range (256 * (t.val + 1)), hit u (sc (8 * j + s.val) l) := by
  unfold lastAt lastT
  exact counted_last _ _ _ (counted_step t.val _ _ _ _ (carried_counted h t.val _) (h.low t) (h.high t))

/-- The rows of all eight sublanes are all rows. -/
theorem sum_sublanes (f : ℕ → ℕ) : ∀ n, ∑ s : Fin 8, ∑ j ∈ Finset.range n, f (8 * j + s.val) = ∑ r ∈ Finset.range (8 * n), f r
  | 0 => by simp
  | n + 1 => by
    rw [show 8 * (n + 1) = 8 * n + 8 by omega, Finset.sum_range_add, ← sum_sublanes f n, Fin.sum_univ_eight, Fin.sum_univ_eight]
    simp only [Finset.sum_range_succ, Finset.sum_range_zero]
    rw [show ((0 : Fin 8) : ℕ) = 0 from rfl, show ((1 : Fin 8) : ℕ) = 1 from rfl, show ((2 : Fin 8) : ℕ) = 2 from rfl, show ((3 : Fin 8) : ℕ) = 3 from rfl,
      show ((4 : Fin 8) : ℕ) = 4 from rfl, show ((5 : Fin 8) : ℕ) = 5 from rfl, show ((6 : Fin 8) : ℕ) = 6 from rfl, show ((7 : Fin 8) : ℕ) = 7 from rfl]
    omega

/-- The result: its `i`-th entry is at least `u` exactly when more than `i` of the scores are. -/
theorem out_ranks (h : Scores m c sc) (t : Fin cfg0.N) (ht : t.val = 43) (l : Fin 256) (i : Fin 50) (u : EReal) :
    u ≤ (outV (lastAt m c t) (ix2 l i : S256x50.Idx) : EReal) ↔ i.val < ∑ r ∈ Finset.range 90112, hit u (sc r l) := by
  obtain ⟨k, hk, hc⟩ := last_keeps h t
  rw [outV_apply _ k hk]
  simp only [hc, ht]
  rw [Finset.sum_add_distrib, sum_sublanes (fun r => hit u (sc r l)), show 8 * (256 * (43 + 1)) = 90112 from rfl]
  by_cases hu : u = ⊥
  · have hs : ∑ r ∈ Finset.range 90112, hit u (sc r l) = 90112 := by
      simp [hit, hu]
    rw [hs]
    have := i.isLt
    exact ⟨fun _ => by omega, fun _ => by omega⟩
  · simp [hu]

end Cert.KernelIdeal

end
-- ==== Proof.Scored.lean ====
/-
  The kernel's scores and its run with its value: each point's score buffers hold the scores of its 2048 rows, so the result
  array ends, at a query and a place `i`, at least `t` exactly when more than `i` of the query's scores are at least `t`.
-/
module

public import proofs.«01_k».proof.Proof.Ranks
public import Idealize.ShloMosaic.Lib.Pipeline.ValueKit
public import Idealize.ShloMosaic.Lib.Claim

@[expose] public section

set_option maxRecDepth 16384

noncomputable section

namespace Cert.KernelIdeal

open Idealize.ShloMosaic Idealize.ShloMosaic.TcCoe Idealize.SL.Sem
open VecWindow (window put)
open Facts₀ Facts
open Gen

/-- The score of row `r` of the codes for query `l`: the inner product of the row with the query, times the row's scale. -/
def score (X : FVec Ideal S2x128x4096 .bf16) (C : Vec Ideal S90112x4096 .i8) (W : FVec Ideal S90112 .f32) (r : ℕ) (l : Fin 256) : EReal :=
  (∑ k : Fin 4096, (FloatOps.sitofp .bf16 (C (ix2 ⟨r % 90112, Nat.mod_lt _ (by decide)⟩ k : S90112x4096.Idx)) : Ideal .bf16)
      * X (ix3 ⟨l.val / 128, by omega⟩ ⟨l.val % 128, Nat.mod_lt _ (by decide)⟩ k : S2x128x4096.Idx) : EReal)
    * (W (ix1 ⟨r % 90112, Nat.mod_lt _ (by decide)⟩ : S90112.Idx) : EReal)

/-- Which block each window takes at point `t`. -/
theorem idx : ∀ t : Fin cfg0.N, win0_0.index t = ![0, 0] ∧ win0_1.index t = ![t.val, 0] ∧ win0_2.index t = ![t.val, 0, 0] := by
  decide +kernel

variable (m : (ℓ : Loc nD τ sig) → Buf (Elt Ideal) ℓ) (c : Dev nD)

/-- Every point's block of queries is all of them. -/
theorem blkX_apply (t : Fin cfg0.N) (q : Fin 256) (k : Fin 4096) :
    blkX m c t (ix2 q k : S256x4096.Idx) = m ((c : Thread nD τ).loc main_arg0) (ix3 ⟨q.val / 128, by omega⟩ ⟨q.val % 128, Nat.mod_lt _ (by decide)⟩ k : S2x128x4096.Idx) := by
  unfold blkX
  blk_point [iblk, V, idx t]

/-- A point's block of codes is its 2048 rows, -/
theorem blkD_apply (t : Fin cfg0.N) (a : Fin 2048) (k : Fin 4096) (h : 2048 * t.val + a.val < 90112) :
    blkD m c t (ix2 a k : S2048x4096.Idx) = m ((c : Thread nD τ).loc main_arg1) (ix2 ⟨2048 * t.val + a.val, h⟩ k : S90112x4096.Idx) := by
  unfold blkD
  blk_point [iblk, V, idx t]

/-- and its block of scales theirs. -/
theorem blkY_apply (t : Fin cfg0.N) (b : Fin 16) (k : Fin 128) (h : 2048 * t.val + (128 * b.val + k.val) < 90112) :
    blkY m c t (ix3 0 b k : S1x16x128.Idx) = m ((c : Thread nD τ).loc main_arg2) (ix1 ⟨2048 * t.val + (128 * b.val + k.val), h⟩ : S90112.Idx) := by
  unfold blkY
  blk_point [iblk, V, idx t]

/-- The product of a block's codes with the queries, at an index. -/
theorem handDot_apply (C : Vec Ideal S1024x4096 .i8) (X : Vec Ideal S256x4096 .bf16) (a : Fin 1024) (q : Fin 256) :
    (handDot C X (ix2 a q : S1024x256.Idx) : EReal)
      = ∑ k : Fin 4096, (FloatOps.sitofp .bf16 (C (ix2 a k : S1024x4096.Idx)) : Ideal .bf16) * (X (ix2 q k : S256x4096.Idx) : EReal) := by
  unfold handDot
  pointwise

/-- The window of 1024 codes at row `r`, at an index. -/
theorem codes_apply (D : Vec Ideal S2048x4096 .i8) (r : ℕ) (hr : r + 1024 ≤ 2048) (a : Fin 1024) (k : Fin 4096) :
    (window D ![r, 0] S1024x4096.size (inbC r hr) : Vec Ideal S1024x4096 .i8) (ix2 a k : S1024x4096.Idx) = D (ix2 ⟨r + a.val, by omega⟩ k : S2048x4096.Idx) := by
  unfold window
  refine congrArg D (funext fun i => ?_)
  fin_cases i <;> apply Fin.ext
  · show r + 1 * a.val = r + a.val
    omega
  · show 0 + 1 * k.val = k.val
    omega

/-- The queries loaded whole. -/
theorem queries_apply (X : Vec Ideal S256x4096 .bf16) (q : Fin 256) (k : Fin 4096) :
    (window X ![0, 0] S256x4096.size Facts₀.inb_S256x4096_S256x4096_0_0 : Vec Ideal S256x4096 .bf16) (ix2 q k : S256x4096.Idx) = X (ix2 q k : S256x4096.Idx) := by
  unfold window
  refine congrArg X (funext fun i => ?_)
  fin_cases i <;> apply Fin.ext
  · show 0 + 1 * q.val = q.val
    omega
  · show 0 + 1 * k.val = k.val
    omega

/-- The scores put at point `t` from its row `r` on are those of rows `2048 t + r` on. -/
theorem scoreV_score (t : Fin cfg0.N) (r b : ℕ) (hr : r + 1024 ≤ 2048) (hb : b + 8 ≤ 16) (hrb : r = 128 * b) (s : Vec Ideal S1024x256 .f32)
    (a : ℕ) (ha : a < 1024) (l : Fin 256) :
    atS (scoreV (blkX m c t) (blkD m c t) (blkY m c t) r b hr hb s) a l
      = score (m ((c : Thread nD τ).loc main_arg0)) (m ((c : Thread nD τ).loc main_arg1)) (m ((c : Thread nD τ).loc main_arg2)) (2048 * t.val + r + a) l := by
  have ht : t.val < 44 := t.isLt
  have e : (⟨2048 * t.val + (r + a), by omega⟩ : Fin 90112) = ⟨(2048 * t.val + r + a) % 90112, Nat.mod_lt _ (by decide)⟩ := Fin.ext (by show 2048 * t.val + (r + a) = (2048 * t.val + r + a) % 90112; omega)
  unfold atS
  rw [show (⟨a % 1024, Nat.mod_lt _ (by decide)⟩ : Fin 1024) = ⟨a, ha⟩ from Fin.ext (Nat.mod_eq_of_lt ha)]
  refine (scoreV_apply (blkX m c t) (blkD m c t) (blkY m c t) r b hr hb s ⟨a, ha⟩ l).trans ?_
  show (_ : EReal) * _ = _
  unfold score
  congr 1
  · rw [handDot_apply]
    refine Finset.sum_congr rfl fun k _ => ?_
    rw [codes_apply _ r hr, queries_apply, blkX_apply, blkD_apply m c t _ k (by dsimp only; omega)]
    dsimp only
    rw [e]
  · unfold scaleAt
    rw [blkY_apply m c t _ _ (by dsimp only; omega)]
    refine congrArg (fun z => m ((c : Thread nD τ).loc main_arg2) (ix1 z : S90112.Idx)) (Fin.ext ?_)
    dsimp only
    omega

/-- At every point the scores put are those of the point's rows. -/
theorem scores : Scores m c (score (m ((c : Thread nD τ).loc main_arg0)) (m ((c : Thread nD τ).loc main_arg1)) (m ((c : Thread nD τ).loc main_arg2))) where
  low t a ha l := scoreV_score m c t 0 0 _ _ rfl _ a ha l
  high t a ha l := scoreV_score m c t 1024 8 _ _ rfl _ a ha l

/-- The last grid point. -/
def tLast : Fin cfg0.N := ⟨43, by decide⟩

/-- The result array after the run is what the last point reads off the kept lists. -/
theorem final_out : (dats m 0 c).arrAt 3 cfg0.N = outV (lastAt m c tLast) := by
  refine (dats m 0 c).arrAt_eq_of_after_last 3 tLast (by decide +kernel) _ fun j => ?_
  blk_simp
  rw [after0_3]

/-- Every run of the kernel ends with its arguments unchanged and with what the last grid point reads off the kept lists in its
    result array. -/
theorem run_ranks (ρ : Dev nD → PrngReg) : θ_run defs (onTc (τ := τ) (main (F := Ideal))) ⟨m, fun _ => 0, ρ⟩ (fun r => ∀ c : Dev nD,
      r.2.mem ((c.tc : Thread nD τ).loc main_v2) = outV (lastAt m c tLast)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final_out m c),
      ((h.1 c).2 main_arg0 (Pipeline.mem_restRefs_of main_arg0 (by decide) (by decide))).trans (V_main_arg0 m c),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c)⟩) (run_main m ρ)

/-- The result's entry at a query and a place: at least `u` exactly when more than that many of the query's scores are. -/
theorem result_ranks (l : Fin 256) (i : Fin 50) (u : EReal) :
    u ≤ (outV (lastAt m c tLast) (ix2 l i : S256x50.Idx) : EReal) ↔ i.val < ∑ r ∈ Finset.range 90112,
      hit u (score (m ((c : Thread nD τ).loc main_arg0)) (m ((c : Thread nD τ).loc main_arg1)) (m ((c : Thread nD τ).loc main_arg2)) r l) :=
  out_ranks (scores m c) tLast rfl l i u

end Cert.KernelIdeal
end
-- ==== Proof.TopSpec.lean ====
/-
  Sorting and selecting told by counts. A stable descending sort puts at place `k` a value that is at least `t` exactly when more
  than `k` of the values are at least `t`. Selecting groups by their greatest member first and sorting only the selected groups'
  members gives the same first places as sorting all members, as long as no more places are asked for than groups are selected.
-/
module

public import Idealize.ShloMosaic.Lib.SortFacts
public import Mathlib.Data.EReal.Basic
public import Mathlib.Algebra.BigOperators.Fin
public import Mathlib.Algebra.Order.BigOperators.Group.Finset
public import proofs.«01_k».proof.Proof.Keep

@[expose] public section

noncomputable section

namespace TopSpec

open Idealize.ShloMosaic
open Cert.KernelIdeal (hit)

/-- One value counts once at most. -/
theorem hit_le_one (t v : EReal) : hit t v ≤ 1 := by
  unfold hit
  split <;> omega

/-- How many entries are at least `t`, as the size of a set. -/
theorem sum_hit_eq_card {n : ℕ} (x : Fin n → EReal) (t : EReal) : ∑ j : Fin n, hit t (x j) = (Finset.univ.filter fun j => t ≤ x j).card := by
  unfold hit
  rw [Finset.card_filter]

/-- The order the top entries are sorted in: greater first. -/
def order {n : ℕ} (x : Fin n → EReal) : Fin n → Fin n := sortedFrom fun k k' => decide (x k' < x k)

/-- No place is taken twice. -/
theorem order_injective {n : ℕ} (x : Fin n → EReal) : Function.Injective (order x) := sortedFrom_injective _

/-- Sorted, no later value is greater than an earlier one. -/
theorem order_antitone {n : ℕ} (x : Fin n → EReal) (i j : Fin n) (h : i ≤ j) : x (order x j) ≤ x (order x i) := by
  rcases h.lt_or_eq with h | h
  · have := sortedFrom_noInversion (fun k k' : Fin n => decide (x k' < x k)) (fun k k' => decide (x k' < x k))
      (fun a b hab => by
        simp only [decide_eq_true_eq, decide_eq_false_iff_not, not_lt] at hab ⊢
        exact hab.le) (fun _ _ h => h)
      (fun a b c hab hbc => by
        simp only [decide_eq_false_iff_not, not_lt] at hab hbc ⊢
        exact hab.trans hbc) i j h
    simpa [order] using this
  · rw [h]

/-- Sorted, the value at place `k` is at least `t` exactly when more than `k` values are. -/
theorem order_ranks {n : ℕ} (x : Fin n → EReal) (t : EReal) (k : Fin n) : t ≤ x (order x k) ↔ k.val < ∑ j : Fin n, hit t (x j) := by
  have hc : ∑ j : Fin n, hit t (x j) = ∑ j : Fin n, hit t (x (order x j)) :=
    (Equiv.sum_comp (Equiv.ofBijective _ ((Finite.injective_iff_bijective).mp (order_injective x))) fun j => hit t (x j)).symm
  rw [hc, sum_hit_eq_card fun j => x (order x j)]
  constructor
  · intro h
    have hsub : Finset.Iic k ⊆ Finset.univ.filter fun j => t ≤ x (order x j) := fun j hj =>
      Finset.mem_filter.mpr ⟨Finset.mem_univ _, h.trans (order_antitone x j k (Finset.mem_Iic.mp hj))⟩
    have := Finset.card_le_card hsub
    rw [Fin.card_Iic] at this
    omega
  · intro h
    by_contra hk
    have hsub : (Finset.univ.filter fun j => t ≤ x (order x j)) ⊆ Finset.Iio k := fun j hj => by
      rw [Finset.mem_Iio]
      by_contra hjk
      exact hk ((Finset.mem_filter.mp hj).2.trans (order_antitone x k j (not_lt.mp hjk)))
    have := Finset.card_le_card hsub
    rw [Fin.card_Iio] at this
    omega

/-- Select `K` groups by their greatest member, greatest first: of the selected groups' members more than `i < K` are at least `t`
    exactly when of all members more than `i` are. -/
theorem two_stage {G K L : ℕ} (y : Fin G → Fin L → EReal) (M : Fin G → EReal) (hM : ∀ g t, t ≤ M g ↔ ∃ k, t ≤ y g k)
    (σ : Fin K → Fin G) (hσ : Function.Injective σ) (hr : ∀ i t, t ≤ M (σ i) ↔ i.val < ∑ g, hit t (M g)) (t : EReal) (i : ℕ) (hi : i < K) :
    i < ∑ p : Fin K, ∑ k, hit t (y (σ p) k) ↔ i < ∑ g, ∑ k, hit t (y g k) := by
  have hpos : ∀ g, t ≤ M g → 1 ≤ ∑ k, hit t (y g k) := by
    intro g h
    obtain ⟨k, hk⟩ := (hM g t).mp h
    refine le_trans ?_ (Finset.single_le_sum (f := fun k => hit t (y g k)) (fun _ _ => Nat.zero_le _) (Finset.mem_univ k))
    simp [hit, hk]
  have hzero : ∀ g, ¬ t ≤ M g → ∑ k, hit t (y g k) = 0 := by
    intro g h
    refine Finset.sum_eq_zero fun k _ => ?_
    have : ¬ t ≤ y g k := fun hk => h ((hM g t).mpr ⟨k, hk⟩)
    simp [hit, this]
  have him : ∑ p : Fin K, ∑ k, hit t (y (σ p) k) = ∑ g ∈ Finset.univ.image σ, ∑ k, hit t (y g k) := by
    rw [Finset.sum_image fun a _ b _ h => hσ h]
  have hle : ∑ p : Fin K, ∑ k, hit t (y (σ p) k) ≤ ∑ g, ∑ k, hit t (y g k) := by
    rw [him]
    exact Finset.sum_le_sum_of_subset (Finset.subset_univ _)
  by_cases hN : K ≤ ∑ g, hit t (M g)
  · have hall : K ≤ ∑ p : Fin K, ∑ k, hit t (y (σ p) k) := by
      refine le_trans (by simp) (Finset.sum_le_sum fun (p : Fin K) _ => hpos (σ p) ((hr p t).mpr (lt_of_lt_of_le p.isLt hN)))
    exact ⟨fun _ => by omega, fun _ => by omega⟩
  · have heq : ∑ p : Fin K, ∑ k, hit t (y (σ p) k) = ∑ g, ∑ k, hit t (y g k) := by
      rw [him]
      refine Finset.sum_subset (Finset.subset_univ _) fun g _ hg => hzero g fun hgt => hg ?_
      set N := ∑ g, hit t (M g) with hNdef
      have hA : (Finset.univ.filter fun g => t ≤ M g).card = N := (sum_hit_eq_card M t).symm
      have hB : ((Finset.univ.filter fun p : Fin K => p.val < N).image σ) = Finset.univ.filter fun g => t ≤ M g := by
        refine Finset.eq_of_subset_of_card_le ?_ ?_
        · intro g hg
          obtain ⟨p, hp, rfl⟩ := Finset.mem_image.mp hg
          exact Finset.mem_filter.mpr ⟨Finset.mem_univ _, (hr p t).mpr (Finset.mem_filter.mp hp).2⟩
        · rw [hA, Finset.card_image_of_injective _ hσ]
          have : (Finset.univ.filter fun p : Fin K => p.val < N) = Finset.Iio ⟨N, by omega⟩ := by
            ext p
            simp [Fin.lt_def]
          rw [this, Fin.card_Iio]
      obtain ⟨p, _, hp⟩ := Finset.mem_image.mp (hB ▸ Finset.mem_filter.mpr ⟨Finset.mem_univ g, hgt⟩)
      exact Finset.mem_image.mpr ⟨p, Finset.mem_univ _, hp⟩
    rw [heq]

end TopSpec

end
-- ==== Proof.RefValue.lean ====
/-
  What the reference's result holds, over the extended reals: the `i`-th entry of a query's row is at least `t` exactly when more
  than `i` of the query's 90112 scores are at least `t`.
-/
module

public import proofs.«01_k».proof.Defs
public import proofs.«01_k».proof.Proof.TopSpec
public import proofs.«01_k».proof.Proof.Scored
public import proofs.«01_k».proof.Proof.Gen.ReferenceIdeal.Run
public import Idealize.ShloMosaic.Lib.ReduceAll
public import Idealize.ShloMosaic.Lib.Affine
public import Idealize.ShloMosaic.PureOps.Ideal.Laws

@[expose] public section

set_option maxRecDepth 16384

noncomputable section

namespace Cert.ReferenceIdeal

open Idealize.ShloMosaic Idealize.ShloMosaic.TcCoe
open Facts₀ Facts
open Cert.KernelIdeal (hit score)
open TopSpec

/-! ## The reference's operations at an index -/

section TopK
variable {n : ℕ} (hn : 50 ≤ n) (x : FVec Ideal ⟨2, ![256, n]⟩ .f32) (h : (⟨2, ![256, n]⟩ : Shape).Slices (fun _ => 0) S256x50)

/-- Row `l` of a two-axis array. -/
def row {n : ℕ} (x : FVec Ideal ⟨2, ![256, n]⟩ .f32) (l : Fin 256) (j : Fin n) : EReal := x (ix2 l j : (⟨2, ![256, n]⟩ : Shape).Idx)

/-- Moving along a row. -/
theorem along_row {n : ℕ} (l : Fin 256) (p k : Fin n) :
    (ix2 l p : (⟨2, ![256, n]⟩ : Shape).Idx).along (1 : Fin 2) k = (ix2 l k : (⟨2, ![256, n]⟩ : Shape).Idx) := by
  unfold Shape.Idx.along
  funext a
  fin_cases a <;> rfl

/-- The comparison the top entries are taken by: greater first. -/
theorem gt_eq (a b : EReal) : ((FloatOps.cmpfTotal (F := Ideal) (φ := .f32) .gt a b) == 1#1) = decide (b < a) := by
  show (Ideal.cmpTotal .gt a b == 1#1) = _
  unfold Ideal.cmpTotal Ideal.cmp
  show (BitVec.ofBool (decide (b < a)) == 1#1) = _
  by_cases hab : b < a <;> simp [hab]

/-- The sort's permutation of a row is the row's order. -/
theorem sorted_row {n : ℕ} (x : FVec Ideal ⟨2, ![256, n]⟩ .f32) (l : Fin 256) (p : Fin n) :
    sortedFrom (fun k k' : Fin n => FloatOps.cmpfTotal .gt (x ((ix2 l p : (⟨2, ![256, n]⟩ : Shape).Idx).along (1 : Fin 2) k))
      (x ((ix2 l p : (⟨2, ![256, n]⟩ : Shape).Idx).along (1 : Fin 2) k')) == 1#1) = order (row x l) := by
  unfold order
  congr 1
  funext k k'
  rw [along_row, along_row, gt_eq]
  rfl

/-- An index of the sliced result, read as an index of the operand. -/
theorem slice_idx (l : Fin 256) (i : Fin 50) (q : ∀ a : Fin 2, 0 + ((ix2 l i : S256x50.Idx) a).val < (![256, n] : Fin 2 → ℕ) a) :
    (fun a : Fin 2 => (⟨0 + ((ix2 l i : S256x50.Idx) a).val, q a⟩ : Fin ((![256, n] : Fin 2 → ℕ) a))) = (ix2 l ⟨i.val, by omega⟩ : (⟨2, ![256, n]⟩ : Shape).Idx) := by
  funext a
  fin_cases a <;> apply Fin.ext <;> exact Nat.zero_add _

/-- The values taken: those of the row, sorted. -/
theorem topK_values (l : Fin 256) (i : Fin 50) :
    (Host.topK S256x50 1 (FloatOps.cmpfTotal .gt) x h).1 (ix2 l i : S256x50.Idx) = row x l (order (row x l) ⟨i.val, by omega⟩) := by
  have key : ∀ J : (⟨2, ![256, n]⟩ : Shape).Idx, J = (ix2 l ⟨i.val, by omega⟩ : (⟨2, ![256, n]⟩ : Shape).Idx) →
      x (J.along (1 : Fin 2) (sortedFrom (fun k k' : Fin n => FloatOps.cmpfTotal .gt (x (J.along (1 : Fin 2) k)) (x (J.along (1 : Fin 2) k')) == 1#1) (J 1)))
        = row x l (order (row x l) ⟨i.val, by omega⟩) := by
    rintro J rfl
    exact (congrArg (fun s : Fin n → Fin n => x ((ix2 l ⟨i.val, by omega⟩ : (⟨2, ![256, n]⟩ : Shape).Idx).along (1 : Fin 2) (s ⟨i.val, by omega⟩))) (sorted_row x l _)).trans
      (congrArg x (along_row l _ _))
  exact key _ (slice_idx hn l i fun a => Nat.lt_of_lt_of_le (Nat.add_lt_add_left ((ix2 l i : S256x50.Idx) a).isLt _) (h.2 a))

/-- The positions taken: those that sorting the row puts first. -/
theorem topK_indices (l : Fin 256) (i : Fin 50) :
    (Host.topK S256x50 1 (FloatOps.cmpfTotal .gt) x h).2 (ix2 l i : S256x50.Idx) = BitVec.ofNat 32 (order (row x l) ⟨i.val, by omega⟩).val := by
  have key : ∀ J : (⟨2, ![256, n]⟩ : Shape).Idx, J = (ix2 l ⟨i.val, by omega⟩ : (⟨2, ![256, n]⟩ : Shape).Idx) →
      BitVec.ofNat 32 ((J.along (1 : Fin 2) (sortedFrom (fun k k' : Fin n => FloatOps.cmpfTotal .gt (x (J.along (1 : Fin 2) k)) (x (J.along (1 : Fin 2) k')) == 1#1) (J 1))) 1).val
        = BitVec.ofNat 32 (order (row x l) ⟨i.val, by omega⟩).val := by
    rintro J rfl
    exact congrArg (fun s : Fin n → Fin n => BitVec.ofNat 32 (s ⟨i.val, by omega⟩).val) (sorted_row x l _)
  exact key _ (slice_idx hn l i fun a => Nat.lt_of_lt_of_le (Nat.add_lt_add_left ((ix2 l i : S256x50.Idx) a).isLt _) (h.2 a))

end TopK

/-- Each group's greatest score. -/
def gmax (y : FVec Ideal S256x704x128 .f32) : FVec Ideal S256x704 .f32 :=
  Host.reduce FloatOps.maximumf y (constant S_ .f32 0xFF800000#32 : FVec Ideal S_ .f32) reducesTo_S256x704x128_S256x704_d2 h_S_

/-- The greatest score of a group is at least `t` exactly when one of the group's is. -/
theorem gmax_ranks (y : FVec Ideal S256x704x128 .f32) (l : Fin 256) (g : Fin 704) (t : EReal) :
    t ≤ (gmax y (ix2 l g : S256x704.Idx) : EReal) ↔ ∃ k : Fin 128, t ≤ (y (ix3 l g k : S256x704x128.Idx) : EReal) := by
  unfold gmax
  pointwise
  have e : Ideal.ofBits .f32 4286578688#32 = ⊥ := Cert.KernelIdeal.neg_inf
  rw [Finset.le_fold_max, e, le_bot_iff]
  constructor
  · rintro (h | ⟨k, _, hk⟩)
    · exact ⟨0, h ▸ bot_le⟩
    · exact ⟨k, hk⟩
  · rintro ⟨k, hk⟩
    exact Or.inr ⟨k, Finset.mem_univ _, hk⟩

/-- The gather takes of each query the groups that its index words name. -/
theorem gather_apply (y : FVec Ideal S256x704x128 .f32) (w : IVec S256x50x1 32) (l : Fin 256) (p : Fin 50) (k : Fin 128) (g : Fin 704)
    (hw : w (ix3 l p 0 : S256x50x1.Idx) = BitVec.ofNat 32 g.val) :
    Host.gather gather_S256x704x128_S256x50x1_S256x50x128_2_1_0_0_1_2_11128 y w (ix3 l p k : S256x50x128.Idx) = y (ix3 l g k : S256x704x128.Idx) := by
  unfold Host.gather
  refine congrArg y (funext fun a => Fin.ext ?_)
  have hg := g.isLt
  have hs : gather_S256x704x128_S256x50x1_S256x50x128_2_1_0_0_1_2_11128.siIdx (ix3 l p k : S256x50x128.Idx) ⟨0, by decide⟩ = (ix3 l p 0 : S256x50x1.Idx) := by
    funext b
    fin_cases b <;> rfl
  have ht : (BitVec.ofNat 32 g.val).toInt.toNat = g.val := by
    rw [BitVec.toInt_eq_toNat_of_lt (by rw [BitVec.toNat_ofNat]; omega), BitVec.toNat_ofNat]
    omega
  show GatherDims.start _ _ _ _ + GatherDims.batchCoord _ _ _ + GatherDims.offCoord _ _ _ = _
  fin_cases a
  · show 0 + l.val + 0 = l.val
    omega
  · show min (w (gather_S256x704x128_S256x50x1_S256x50x128_2_1_0_0_1_2_11128.siIdx (ix3 l p k : S256x50x128.Idx) ⟨0, by decide⟩)).toInt.toNat 703 + 0 + 0 = g.val
    rw [hs, hw, ht]
    omega
  · show 0 + 0 + k.val = k.val
    omega

/-! ## The reference's result -/

/-- The words that name each query's selected groups. -/
def picked (y : FVec Ideal S256x704x128 .f32) : IVec S256x50x1 32 :=
  broadcastInDim S256x50x1 ![0, 1] bcast_S256x50_S256x50x1_0_1 (Host.topK S256x50 1 (FloatOps.cmpfTotal .gt) (gmax y) sliceFits_S256x704_S256x50).2

/-- The same words, a negative one counted from the end. -/
def wrapped (y : FVec Ideal S256x704x128 .f32) : IVec S256x50x1 32 :=
  select (cmpi .slt (picked y) (broadcastInDim S256x50x1 ![] bcast_S_S256x50x1 (constantI S_ 32 0#32)))
    (addi (picked y) (broadcastInDim S256x50x1 ![] bcast_S_S256x50x1 (constantI S_ 32 704#32))) (picked y)

/-- Where the words name a group there is. -/
def inRange (y : FVec Ideal S256x704x128 .f32) : IVec S256x50 1 :=
  Host.reduce IntOp.andi (andi (cmpi .sge (wrapped y) (broadcastInDim S256x50x1 ![] bcast_S_S256x50x1 (constantI S_ 32 0#32)))
    (cmpi .sle (wrapped y) (broadcastInDim S256x50x1 ![0, 1, 2] bcast_S1x1x1_S256x50x1_0_1_2 (broadcastInDim S1x1x1 ![2] bcast_S1_S1x1x1_2 (constantI S1 32 703#32)))))
    (constantI S_ 1 1#1) reducesTo_S256x50x1_S256x50_d2 h_S_

/-- The selected groups' scores. -/
def cand (y : FVec Ideal S256x704x128 .f32) : FVec Ideal S256x50x128 .f32 :=
  select (broadcastInDim S256x50x128 ![0, 1] bcast_S256x50_S256x50x128_0_1 (inRange y))
    (Host.gather gather_S256x704x128_S256x50x1_S256x50x128_2_1_0_0_1_2_11128 y (wrapped y))
    (broadcastInDim S256x50x128 ![] bcast_S_S256x50x128 (constant S_ .f32 0x7FC00000#32))

/-- The top scores among them. -/
def refTop (y : FVec Ideal S256x704x128 .f32) : FVec Ideal S256x50 .f32 :=
  (Host.topK S256x50 1 (FloatOps.cmpfTotal .gt) (shapeCast S256x6400 (cand y) shapeCasts_S256x50x128_S256x6400) sliceFits_S256x6400_S256x50).1

/-- All scores, in groups of 128. -/
def grouped (X : FVec Ideal S2x128x4096 .bf16) (C : IVec S90112x4096 8) (W : FVec Ideal S90112 .f32) : FVec Ideal S256x704x128 .f32 :=
  shapeCast S256x704x128 (mulf (Host.dotGeneral dot_S256x4096_S90112x4096_S256x90112_1_1_0_0_n_n none (shapeCast S256x4096 X shapeCasts_S2x128x4096_S256x4096)
      (sitofp .bf16 (extsi 32 C natLt_8_32)))
    (broadcastInDim S256x90112 ![0, 1] bcast_S1x90112_S256x90112_0_1 (broadcastInDim S1x90112 ![1] bcast_S90112_S1x90112_1 W))) shapeCasts_S256x90112_S256x704x128

/-- The reference's result is the selection in two stages of the grouped scores. -/
theorem res_eq (m : (ℓ : Loc nD τ sig) → Buf (Elt Ideal) ℓ) (c : Dev nD) : Value.res_main_values_0 m c
    = refTop (grouped (m ((c.tc : Thread nD τ).loc main_arg0)) (m ((c.tc : Thread nD τ).loc main_arg1)) (m ((c.tc : Thread nD τ).loc main_arg2))) := by
  unfold Value.res_main_values_0 refTop cand inRange wrapped picked gmax grouped
  rfl

/-- Each group's scores are those of its rows. -/
theorem grouped_apply (X : FVec Ideal S2x128x4096 .bf16) (C : IVec S90112x4096 8) (W : FVec Ideal S90112 .f32) (l : Fin 256) (g : Fin 704) (k : Fin 128) :
    (grouped X C W (ix3 l g k : S256x704x128.Idx) : EReal) = score X C W (128 * g.val + k.val) l := by
  have e : (⟨g.val * 128 + k.val, by omega⟩ : Fin 90112) = ⟨(128 * g.val + k.val) % 90112, Nat.mod_lt _ (by decide)⟩ := Fin.ext (by dsimp only; omega)
  unfold grouped score
  pointwise
  rw [e]
  refine congrArg (· * _) (Finset.sum_congr rfl fun x _ => ?_)
  rw [mul_comm]
  refine congrArg (· * _) ?_
  show ((((BitVec.signExtend 32 (C _)).toInt : ℝ)) : EReal) = (((C _).toInt : ℝ) : EReal)
  rw [BitVec.toInt_signExtend_of_le (by decide)]

/-- The words name the groups that sorting the greatest scores puts first. -/
theorem picked_apply (y : FVec Ideal S256x704x128 .f32) (l : Fin 256) (p : Fin 50) :
    picked y (ix3 l p 0 : S256x50x1.Idx) = BitVec.ofNat 32 (order (row (gmax y) l) ⟨p.val, by omega⟩).val := by
  rw [← topK_indices (n := 704) (by omega) (gmax y) sliceFits_S256x704_S256x50 l p]
  unfold picked
  generalize (Host.topK S256x50 1 (FloatOps.cmpfTotal .gt) (gmax y) sliceFits_S256x704_S256x50).2 = w
  pointwise

/-- A group's number is its word's value. -/
theorem word_lt (g : Fin 704) : (BitVec.ofNat 32 g.val).toInt = g.val := by
  have hg := g.isLt
  rw [BitVec.toInt_eq_toNat_of_lt (by rw [BitVec.toNat_ofNat]; omega), BitVec.toNat_ofNat]
  omega

/-- A signed comparison that fails, -/
theorem cmp_false {a b : BitVec 32} (h : ¬ a.toInt < b.toInt) : IntOp.cmpi .slt a b = 0#1 := by
  show BitVec.ofBool (decide (a.toInt < b.toInt)) = 0#1
  rw [decide_eq_false h]
  rfl

/-- and one that holds. -/
theorem cmp_true {a b : BitVec 32} (h : a.toInt ≤ b.toInt) : IntOp.cmpi .sle a b = 1#1 ∧ IntOp.cmpi .sge b a = 1#1 := by
  constructor
  · show BitVec.ofBool (decide (a.toInt ≤ b.toInt)) = 1#1
    rw [decide_eq_true h]
    rfl
  · show BitVec.ofBool (decide (a.toInt ≤ b.toInt)) = 1#1
    rw [decide_eq_true h]
    rfl

/-- No selected group's number is negative, so none is moved. -/
theorem wrapped_apply (y : FVec Ideal S256x704x128 .f32) (l : Fin 256) (p : Fin 50) :
    wrapped y (ix3 l p 0 : S256x50x1.Idx) = BitVec.ofNat 32 (order (row (gmax y) l) ⟨p.val, by omega⟩).val := by
  have h := picked_apply y l p
  unfold wrapped
  generalize picked y = w at h ⊢
  generalize order (row (gmax y) l) ⟨p.val, by omega⟩ = g at h ⊢
  pointwise
  rw [h, show IntOp.cmpi .slt (BitVec.ofNat 32 g.val) 0#32 = 0#1 from cmp_false (by rw [word_lt]; show ¬ (g.val : ℤ) < 0; omega)]
  rfl

/-- All of them are in range. -/
theorem inRange_apply (y : FVec Ideal S256x704x128 .f32) (l : Fin 256) (p : Fin 50) : inRange y (ix2 l p : S256x50.Idx) = 1#1 := by
  unfold inRange
  refine Host.reduce_andi_one _ _ _ _ _ rfl fun i => ?_
  have h := wrapped_apply y (i 0) (i 1)
  have ei : i = (ix3 (i 0) (i 1) 0 : S256x50x1.Idx) := (eq_ix3 i).trans (congrArg (fun z : Fin 1 => (ix3 (i 0) (i 1) z : S256x50x1.Idx)) (Subsingleton.elim _ _))
  rw [ei]
  generalize wrapped y = w at h ⊢
  generalize order (row (gmax y) (i 0)) ⟨(i 1).val, _⟩ = g at h ⊢
  pointwise
  have hg := g.isLt
  rw [h, (cmp_true (a := 0#32) (b := BitVec.ofNat 32 g.val) (by rw [word_lt]; show (0 : ℤ) ≤ g.val; omega)).2,
    (cmp_true (a := BitVec.ofNat 32 g.val) (b := 703#32) (by rw [word_lt]; show (g.val : ℤ) ≤ 703; omega)).1]
  rfl

/-- The selected groups' scores. -/
theorem cand_apply (y : FVec Ideal S256x704x128 .f32) (l : Fin 256) (p : Fin 50) (k : Fin 128) :
    cand y (ix3 l p k : S256x50x128.Idx) = y (ix3 l (order (row (gmax y) l) ⟨p.val, by omega⟩) k : S256x704x128.Idx) := by
  have h := inRange_apply y l p
  have hg := gather_apply y (wrapped y) l p k _ (wrapped_apply y l p)
  rw [← hg]
  unfold cand
  generalize Host.gather gather_S256x704x128_S256x50x1_S256x50x128_2_1_0_0_1_2_11128 y (wrapped y) = z
  generalize inRange y = b at h ⊢
  pointwise
  rw [h]
  rfl

/-- The top scores told by counts over all groups' scores. -/
theorem refTop_ranks (y : FVec Ideal S256x704x128 .f32) (l : Fin 256) (i : Fin 50) (t : EReal) :
    t ≤ (refTop y (ix2 l i : S256x50.Idx) : EReal) ↔ i.val < ∑ g : Fin 704, ∑ k : Fin 128, hit t (y (ix3 l g k : S256x704x128.Idx)) := by
  unfold refTop
  rw [topK_values (n := 6400) (by omega), order_ranks]
  have e : ∀ j : Fin 6400, row (shapeCast S256x6400 (cand y) shapeCasts_S256x50x128_S256x6400) l j
      = y (ix3 l (order (row (gmax y) l) ⟨j.val / 128, by omega⟩) ⟨j.val % 128, Nat.mod_lt _ (by decide)⟩ : S256x704x128.Idx) := by
    intro j
    rw [← cand_apply y l ⟨j.val / 128, by omega⟩]
    unfold row
    generalize cand y = z
    pointwise
  simp only [e]
  have hs : ∑ j : Fin 6400, hit t (y (ix3 l (order (row (gmax y) l) ⟨j.val / 128, by omega⟩) ⟨j.val % 128, Nat.mod_lt _ (by decide)⟩ : S256x704x128.Idx))
      = ∑ p : Fin 50, ∑ k : Fin 128, hit t (y (ix3 l (order (row (gmax y) l) ⟨p.val, by omega⟩) k : S256x704x128.Idx)) := by
    rw [Fin.sum_univ_tiles 50 128 rfl]
    refine Finset.sum_congr rfl fun p _ => Finset.sum_congr rfl fun k _ => ?_
    have e1 : (⟨(p.val * 128 + k.val) / 128, by omega⟩ : Fin 704) = ⟨p.val, by omega⟩ := Fin.ext (by dsimp only; omega)
    have e2 : (⟨(p.val * 128 + k.val) % 128, Nat.mod_lt _ (by decide)⟩ : Fin 128) = k := Fin.ext (by dsimp only; omega)
    dsimp only
    rw [e1, e2]
  rw [hs]
  exact two_stage (fun g k => y (ix3 l g k : S256x704x128.Idx)) (row (gmax y) l) (fun g t => gmax_ranks y l g t)
    (fun p : Fin 50 => order (row (gmax y) l) ⟨p.val, by omega⟩) (fun a b h => Fin.ext (Fin.mk.inj (order_injective _ h)))
    (fun p t => order_ranks _ _ _) t i.val i.isLt

/-- The reference's result: its entry at a query and a place is at least `t` exactly when more than that many of the scores are. -/
theorem result_ranks (X : FVec Ideal S2x128x4096 .bf16) (C : IVec S90112x4096 8) (W : FVec Ideal S90112 .f32) (l : Fin 256) (i : Fin 50) (t : EReal) :
    t ≤ (refTop (grouped X C W) (ix2 l i : S256x50.Idx) : EReal) ↔ i.val < ∑ r ∈ Finset.range 90112, hit t (score X C W r l) := by
  rw [refTop_ranks]
  simp only [grouped_apply]
  have hs : ∑ g : Fin 704, ∑ k : Fin 128, hit t (score X C W (128 * g.val + k.val) l) = ∑ r ∈ Finset.range 90112, hit t (score X C W r l) := by
    rw [← Fin.sum_univ_eq_sum_range (fun r => hit t (score X C W r l)), Fin.sum_univ_tiles 704 128 rfl]
    refine Finset.sum_congr rfl fun g _ => Finset.sum_congr rfl fun k _ => ?_
    rw [Nat.mul_comm 128]
  rw [hs]

end Cert.ReferenceIdeal
end
-- ==== Proof.Algebraic.lean ====
/-
  The kernel and the reference compute the same function over the extended reals.  Both result arrays are told by the same counts:
  an entry is at least `t` exactly when more than its place's number of the query's scores are.
-/
module

public import proofs.«01_k».proof.Defs
public import proofs.«01_k».proof.Proof.Scored
public import proofs.«01_k».proof.Proof.RefValue

@[expose] public section

noncomputable section

namespace Cert.Proof

open Idealize.ShloMosaic Idealize.ShloMosaic.TcCoe Idealize.SL.Sem

/-- From equal arguments the reference's result is the kernel's, entry by entry. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_values_0 (F := Ideal) m' c = Cert.KernelIdeal.outV (Cert.KernelIdeal.lastAt m c Cert.KernelIdeal.tLast) := by
  rw [Cert.ReferenceIdeal.res_eq]
  funext j
  rw [eq_ix2 j]
  refine eq_of_forall_le_iff (α := EReal) fun t => ?_
  refine (Cert.ReferenceIdeal.result_ranks _ _ _ (j 0) (j 1) t).trans (Iff.trans ?_ (Cert.KernelIdeal.result_ranks m c (j 0) (j 1) t).symm)
  rw [h.1, h.2.1, h.2.2]

/-- From equal arguments the kernel and the reference both end, with equal results and unchanged arguments. -/
theorem algebraic : Cert.algebraic_KernelIdeal_ReferenceIdeal := fun m g m' g' _ h =>
  ⟨fun c => Cert.KernelIdeal.outV (Cert.KernelIdeal.lastAt m c Cert.KernelIdeal.tLast), Cert.KernelIdeal.run_ranks m g,
    (θ_run Cert.ReferenceIdeal.defs _ _).mono (fun _ hr c => ⟨(hr c).1.trans (result_eq m m' c (h c)), (hr c).2⟩)
      (Cert.ReferenceIdeal.Value.run m' g')⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- Everything that is claimed: the three programs end and leave their arguments unchanged, and over the extended reals the
    kernel and the reference end with the same result. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
